-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S1x8192x128 : Shape := ⟨3, ![1, 8192, 128]⟩
abbrev S8192x128 : Shape := ⟨2, ![8192, 128]⟩
abbrev S8x128 : Shape := ⟨2, ![8, 128]⟩
abbrev S8x1 : Shape := ⟨2, ![8, 1]⟩
abbrev S1x8x1 : Shape := ⟨3, ![1, 8, 1]⟩
abbrev S8191x128 : Shape := ⟨2, ![8191, 128]⟩
abbrev S1x128 : Shape := ⟨2, ![1, 128]⟩
abbrev S1024x8x128 : Shape := ⟨3, ![1024, 8, 128]⟩
abbrev S8190x128 : Shape := ⟨2, ![8190, 128]⟩
abbrev S2x128 : Shape := ⟨2, ![2, 128]⟩
abbrev S8188x128 : Shape := ⟨2, ![8188, 128]⟩
abbrev S4x128 : Shape := ⟨2, ![4, 128]⟩
abbrev S1024x1x128 : Shape := ⟨3, ![1024, 1, 128]⟩
abbrev S1024x128 : Shape := ⟨2, ![1024, 128]⟩

abbrev nBuf : Space → Nat
  | .hbm => 2
  | .vmem => 5
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .local _ .vmem, ⟨0, _⟩ => ⟨S1x8192x128, .f32⟩
  | .local _ .vmem, ⟨1, _⟩ => ⟨S1x8192x128, .f32⟩
  | .local _ .vmem, ⟨2, _⟩ => ⟨S1x8192x128, .f32⟩
  | .local _ .vmem, ⟨3, _⟩ => ⟨S1x8192x128, .f32⟩
  | .local _ .vmem, ⟨4, _⟩ => ⟨S1x8192x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_1 : BitVec 32 := 0#32
  let c512_i32 : BitVec 32 := 512#32
  let v0 : BitVec 32 := Scalar.addi c0_i32_1 c512_i32
  let c1_i32 : BitVec 32 := 1#32
  ⟨c0_i32_1, v0, c1_i32⟩
def k0_off1 (k0_t1 : Fin k0_t1_loop.trips) (c0_i32_191 : BitVec 32) : Fin 2 → Nat :=
  let c0_i32_1 : BitVec 32 := 0#32
  let c1_i32 : BitVec 32 := 1#32
  let arg5 : BitVec 32 := Scf.iv c0_i32_1 c1_i32 k0_t1
  let c0_i32_180 : BitVec 32 := 0#32
  let v235 : BitVec 1 := Scalar.cmpi .sgt arg5 c0_i32_180
  let v236 : BitVec 32 := Scalar.extui v235
  let c0_i32_181 : BitVec 32 := 0#32
  let v237 : BitVec 1 := Scalar.cmpi .slt arg5 c0_i32_181
  let v238 : BitVec 32 := Scalar.extui v237
  let v239 : BitVec 32 := Scalar.subi v236 v238
  let c1_i32_179 : BitVec 32 := 1#32
  let c0_i32_182 : BitVec 32 := 0#32
  let v240 : BitVec 1 := Scalar.cmpi .sgt c1_i32_179 c0_i32_182
  let v241 : BitVec 32 := Scalar.extui v240
  let c0_i32_183 : BitVec 32 := 0#32
  let v242 : BitVec 1 := Scalar.cmpi .slt c1_i32_179 c0_i32_183
  let v243 : BitVec 32 := Scalar.extui v242
  let v244 : BitVec 32 := Scalar.subi v241 v243
  let v245 : BitVec 1 := Scalar.cmpi .ne v239 v244
  let v246 : BitVec 32 := Scalar.remsi arg5 c1_i32_179
  let c0_i32_184 : BitVec 32 := 0#32
  let v247 : BitVec 1 := Scalar.cmpi .ne v246 c0_i32_184
  let v248 : BitVec 1 := Scalar.andi v245 v247
  let v234 : BitVec 32 := Scalar.divsi arg5 c1_i32_179
  let c1_i32_185 : BitVec 32 := 1#32
  let v249 : BitVec 32 := Scalar.subi v234 c1_i32_185
  let v250 : BitVec 32 := Scalar.select v248 v249 v234
  let c16_i32 : BitVec 32 := 16#32
  let v253 : BitVec 32 := Scalar.muli v250 c16_i32
  let c1_i32_186 : BitVec 32 := 1#32
  let v251 : BitVec 32 := Scalar.muli v250 c1_i32_186
  let v252 : BitVec 32 := Scalar.subi arg5 v251
  let c8_i32 : BitVec 32 := 8#32
  let v254 : BitVec 32 := Scalar.muli v252 c8_i32
  let v255 : BitVec 32 := Scalar.addi v253 v254
  let v261 : BitVec 32 := Scalar.addi v255 c0_i32_191
  let v264 : Index := Scalar.indexCast v261
  let c0_194 : Index := 0#32
  ![v264.toNat, 0]
@[reducible] def k0_t2_loop : Scf.Loop 32 :=
  let c0_i32_5 : BitVec 32 := 0#32
  let c256_i32 : BitVec 32 := 256#32
  let v1 : BitVec 32 := Scalar.addi c0_i32_5 c256_i32
  let c1_i32_6 : BitVec 32 := 1#32
  ⟨c0_i32_5, v1, c1_i32_6⟩
def k0_off2 (k0_t2 : Fin k0_t2_loop.trips) (c0_i32_188 : BitVec 32) : Fin 2 → Nat :=
  let c0_i32_5 : BitVec 32 := 0#32
  let c1_i32_6 : BitVec 32 := 1#32
  let arg5 : BitVec 32 := Scf.iv c0_i32_5 c1_i32_6 k0_t2
  let c0_i32_180 : BitVec 32 := 0#32
  let v235 : BitVec 1 := Scalar.cmpi .sgt arg5 c0_i32_180
  let v236 : BitVec 32 := Scalar.extui v235
  let c0_i32_181 : BitVec 32 := 0#32
  let v237 : BitVec 1 := Scalar.cmpi .slt arg5 c0_i32_181
  let v238 : BitVec 32 := Scalar.extui v237
  let v239 : BitVec 32 := Scalar.subi v236 v238
  let c1_i32_179 : BitVec 32 := 1#32
  let c0_i32_182 : BitVec 32 := 0#32
  let v240 : BitVec 1 := Scalar.cmpi .sgt c1_i32_179 c0_i32_182
  let v241 : BitVec 32 := Scalar.extui v240
  let c0_i32_183 : BitVec 32 := 0#32
  let v242 : BitVec 1 := Scalar.cmpi .slt c1_i32_179 c0_i32_183
  let v243 : BitVec 32 := Scalar.extui v242
  let v244 : BitVec 32 := Scalar.subi v241 v243
  let v245 : BitVec 1 := Scalar.cmpi .ne v239 v244
  let v246 : BitVec 32 := Scalar.remsi arg5 c1_i32_179
  let c0_i32_184 : BitVec 32 := 0#32
  let v247 : BitVec 1 := Scalar.cmpi .ne v246 c0_i32_184
  let v248 : BitVec 1 := Scalar.andi v245 v247
  let v234 : BitVec 32 := Scalar.divsi arg5 c1_i32_179
  let c1_i32_185 : BitVec 32 := 1#32
  let v249 : BitVec 32 := Scalar.subi v234 c1_i32_185
  let v250 : BitVec 32 := Scalar.select v248 v249 v234
  let c32_i32_187 : BitVec 32 := 32#32
  let v253 : BitVec 32 := Scalar.muli v250 c32_i32_187
  let c1_i32_186 : BitVec 32 := 1#32
  let v251 : BitVec 32 := Scalar.muli v250 c1_i32_186
  let v252 : BitVec 32 := Scalar.subi arg5 v251
  let c8_i32 : BitVec 32 := 8#32
  let v254 : BitVec 32 := Scalar.muli v252 c8_i32
  let v255 : BitVec 32 := Scalar.addi v253 v254
  let v256 : BitVec 32 := Scalar.addi v255 c0_i32_188
  let v259 : Index := Scalar.indexCast v256
  let c0_191 : Index := 0#32
  ![v259.toNat, 0]
@[reducible] def k0_t3_loop : Scf.Loop 32 :=
  let c0_i32_10 : BitVec 32 := 0#32
  let c128_i32 : BitVec 32 := 128#32
  let v2 : BitVec 32 := Scalar.addi c0_i32_10 c128_i32
  let c1_i32_11 : BitVec 32 := 1#32
  ⟨c0_i32_10, v2, c1_i32_11⟩
def k0_off3 (k0_t3 : Fin k0_t3_loop.trips) (c0_i32_188 : BitVec 32) : Fin 2 → Nat :=
  let c0_i32_10 : BitVec 32 := 0#32
  let c1_i32_11 : BitVec 32 := 1#32
  let arg5 : BitVec 32 := Scf.iv c0_i32_10 c1_i32_11 k0_t3
  let c0_i32_180 : BitVec 32 := 0#32
  let v235 : BitVec 1 := Scalar.cmpi .sgt arg5 c0_i32_180
  let v236 : BitVec 32 := Scalar.extui v235
  let c0_i32_181 : BitVec 32 := 0#32
  let v237 : BitVec 1 := Scalar.cmpi .slt arg5 c0_i32_181
  let v238 : BitVec 32 := Scalar.extui v237
  let v239 : BitVec 32 := Scalar.subi v236 v238
  let c1_i32_179 : BitVec 32 := 1#32
  let c0_i32_182 : BitVec 32 := 0#32
  let v240 : BitVec 1 := Scalar.cmpi .sgt c1_i32_179 c0_i32_182
  let v241 : BitVec 32 := Scalar.extui v240
  let c0_i32_183 : BitVec 32 := 0#32
  let v242 : BitVec 1 := Scalar.cmpi .slt c1_i32_179 c0_i32_183
  let v243 : BitVec 32 := Scalar.extui v242
  let v244 : BitVec 32 := Scalar.subi v241 v243
  let v245 : BitVec 1 := Scalar.cmpi .ne v239 v244
  let v246 : BitVec 32 := Scalar.remsi arg5 c1_i32_179
  let c0_i32_184 : BitVec 32 := 0#32
  let v247 : BitVec 1 := Scalar.cmpi .ne v246 c0_i32_184
  let v248 : BitVec 1 := Scalar.andi v245 v247
  let v234 : BitVec 32 := Scalar.divsi arg5 c1_i32_179
  let c1_i32_185 : BitVec 32 := 1#32
  let v249 : BitVec 32 := Scalar.subi v234 c1_i32_185
  let v250 : BitVec 32 := Scalar.select v248 v249 v234
  let c64_i32_187 : BitVec 32 := 64#32
  let v253 : BitVec 32 := Scalar.muli v250 c64_i32_187
  let c1_i32_186 : BitVec 32 := 1#32
  let v251 : BitVec 32 := Scalar.muli v250 c1_i32_186
  let v252 : BitVec 32 := Scalar.subi arg5 v251
  let c8_i32 : BitVec 32 := 8#32
  let v254 : BitVec 32 := Scalar.muli v252 c8_i32
  let v255 : BitVec 32 := Scalar.addi v253 v254
  let v256 : BitVec 32 := Scalar.addi v255 c0_i32_188
  let v259 : Index := Scalar.indexCast v256
  let c0_191 : Index := 0#32
  ![v259.toNat, 0]
@[reducible] def k0_t4_loop : Scf.Loop 32 :=
  let c0_i32_15 : BitVec 32 := 0#32
  let c64_i32 : BitVec 32 := 64#32
  let v3 : BitVec 32 := Scalar.addi c0_i32_15 c64_i32
  let c1_i32_16 : BitVec 32 := 1#32
  ⟨c0_i32_15, v3, c1_i32_16⟩
def k0_off4 (k0_t4 : Fin k0_t4_loop.trips) (c0_i32_188 : BitVec 32) : Fin 2 → Nat :=
  let c0_i32_15 : BitVec 32 := 0#32
  let c1_i32_16 : BitVec 32 := 1#32
  let arg5 : BitVec 32 := Scf.iv c0_i32_15 c1_i32_16 k0_t4
  let c0_i32_180 : BitVec 32 := 0#32
  let v235 : BitVec 1 := Scalar.cmpi .sgt arg5 c0_i32_180
  let v236 : BitVec 32 := Scalar.extui v235
  let c0_i32_181 : BitVec 32 := 0#32
  let v237 : BitVec 1 := Scalar.cmpi .slt arg5 c0_i32_181
  let v238 : BitVec 32 := Scalar.extui v237
  let v239 : BitVec 32 := Scalar.subi v236 v238
  let c1_i32_179 : BitVec 32 := 1#32
  let c0_i32_182 : BitVec 32 := 0#32
  let v240 : BitVec 1 := Scalar.cmpi .sgt c1_i32_179 c0_i32_182
  let v241 : BitVec 32 := Scalar.extui v240
  let c0_i32_183 : BitVec 32 := 0#32
  let v242 : BitVec 1 := Scalar.cmpi .slt c1_i32_179 c0_i32_183
  let v243 : BitVec 32 := Scalar.extui v242
  let v244 : BitVec 32 := Scalar.subi v241 v243
  let v245 : BitVec 1 := Scalar.cmpi .ne v239 v244
  let v246 : BitVec 32 := Scalar.remsi arg5 c1_i32_179
  let c0_i32_184 : BitVec 32 := 0#32
  let v247 : BitVec 1 := Scalar.cmpi .ne v246 c0_i32_184
  let v248 : BitVec 1 := Scalar.andi v245 v247
  let v234 : BitVec 32 := Scalar.divsi arg5 c1_i32_179
  let c1_i32_185 : BitVec 32 := 1#32
  let v249 : BitVec 32 := Scalar.subi v234 c1_i32_185
  let v250 : BitVec 32 := Scalar.select v248 v249 v234
  let c128_i32_187 : BitVec 32 := 128#32
  let v253 : BitVec 32 := Scalar.muli v250 c128_i32_187
  let c1_i32_186 : BitVec 32 := 1#32
  let v251 : BitVec 32 := Scalar.muli v250 c1_i32_186
  let v252 : BitVec 32 := Scalar.subi arg5 v251
  let c8_i32 : BitVec 32 := 8#32
  let v254 : BitVec 32 := Scalar.muli v252 c8_i32
  let v255 : BitVec 32 := Scalar.addi v253 v254
  let v256 : BitVec 32 := Scalar.addi v255 c0_i32_188
  let v259 : Index := Scalar.indexCast v256
  let c0_191 : Index := 0#32
  ![v259.toNat, 0]
@[reducible] def k0_t5_loop : Scf.Loop 32 :=
  let c0_i32_20 : BitVec 32 := 0#32
  let c32_i32 : BitVec 32 := 32#32
  let v4 : BitVec 32 := Scalar.addi c0_i32_20 c32_i32
  let c1_i32_21 : BitVec 32 := 1#32
  ⟨c0_i32_20, v4, c1_i32_21⟩
def k0_off5 (k0_t5 : Fin k0_t5_loop.trips) (c0_i32_188 : BitVec 32) : Fin 2 → Nat :=
  let c0_i32_20 : BitVec 32 := 0#32
  let c1_i32_21 : BitVec 32 := 1#32
  let arg5 : BitVec 32 := Scf.iv c0_i32_20 c1_i32_21 k0_t5
  let c0_i32_180 : BitVec 32 := 0#32
  let v235 : BitVec 1 := Scalar.cmpi .sgt arg5 c0_i32_180
  let v236 : BitVec 32 := Scalar.extui v235
  let c0_i32_181 : BitVec 32 := 0#32
  let v237 : BitVec 1 := Scalar.cmpi .slt arg5 c0_i32_181
  let v238 : BitVec 32 := Scalar.extui v237
  let v239 : BitVec 32 := Scalar.subi v236 v238
  let c1_i32_179 : BitVec 32 := 1#32
  let c0_i32_182 : BitVec 32 := 0#32
  let v240 : BitVec 1 := Scalar.cmpi .sgt c1_i32_179 c0_i32_182
  let v241 : BitVec 32 := Scalar.extui v240
  let c0_i32_183 : BitVec 32 := 0#32
  let v242 : BitVec 1 := Scalar.cmpi .slt c1_i32_179 c0_i32_183
  let v243 : BitVec 32 := Scalar.extui v242
  let v244 : BitVec 32 := Scalar.subi v241 v243
  let v245 : BitVec 1 := Scalar.cmpi .ne v239 v244
  let v246 : BitVec 32 := Scalar.remsi arg5 c1_i32_179
  let c0_i32_184 : BitVec 32 := 0#32
  let v247 : BitVec 1 := Scalar.cmpi .ne v246 c0_i32_184
  let v248 : BitVec 1 := Scalar.andi v245 v247
  let v234 : BitVec 32 := Scalar.divsi arg5 c1_i32_179
  let c1_i32_185 : BitVec 32 := 1#32
  let v249 : BitVec 32 := Scalar.subi v234 c1_i32_185
  let v250 : BitVec 32 := Scalar.select v248 v249 v234
  let c256_i32_187 : BitVec 32 := 256#32
  let v253 : BitVec 32 := Scalar.muli v250 c256_i32_187
  let c1_i32_186 : BitVec 32 := 1#32
  let v251 : BitVec 32 := Scalar.muli v250 c1_i32_186
  let v252 : BitVec 32 := Scalar.subi arg5 v251
  let c8_i32 : BitVec 32 := 8#32
  let v254 : BitVec 32 := Scalar.muli v252 c8_i32
  let v255 : BitVec 32 := Scalar.addi v253 v254
  let v256 : BitVec 32 := Scalar.addi v255 c0_i32_188
  let v259 : Index := Scalar.indexCast v256
  let c0_191 : Index := 0#32
  ![v259.toNat, 0]
@[reducible] def k0_t6_loop : Scf.Loop 32 :=
  let c0_i32_25 : BitVec 32 := 0#32
  let c32_i32_26 : BitVec 32 := 32#32
  let v5 : BitVec 32 := Scalar.addi c0_i32_25 c32_i32_26
  let c1_i32_27 : BitVec 32 := 1#32
  ⟨c0_i32_25, v5, c1_i32_27⟩
def k0_off6 (k0_t6 : Fin k0_t6_loop.trips) (c0_i32_188 : BitVec 32) : Fin 2 → Nat :=
  let c0_i32_25 : BitVec 32 := 0#32
  let c1_i32_27 : BitVec 32 := 1#32
  let arg5 : BitVec 32 := Scf.iv c0_i32_25 c1_i32_27 k0_t6
  let c0_i32_180 : BitVec 32 := 0#32
  let v235 : BitVec 1 := Scalar.cmpi .sgt arg5 c0_i32_180
  let v236 : BitVec 32 := Scalar.extui v235
  let c0_i32_181 : BitVec 32 := 0#32
  let v237 : BitVec 1 := Scalar.cmpi .slt arg5 c0_i32_181
  let v238 : BitVec 32 := Scalar.extui v237
  let v239 : BitVec 32 := Scalar.subi v236 v238
  let c2_i32_179 : BitVec 32 := 2#32
  let c0_i32_182 : BitVec 32 := 0#32
  let v240 : BitVec 1 := Scalar.cmpi .sgt c2_i32_179 c0_i32_182
  let v241 : BitVec 32 := Scalar.extui v240
  let c0_i32_183 : BitVec 32 := 0#32
  let v242 : BitVec 1 := Scalar.cmpi .slt c2_i32_179 c0_i32_183
  let v243 : BitVec 32 := Scalar.extui v242
  let v244 : BitVec 32 := Scalar.subi v241 v243
  let v245 : BitVec 1 := Scalar.cmpi .ne v239 v244
  let v246 : BitVec 32 := Scalar.remsi arg5 c2_i32_179
  let c0_i32_184 : BitVec 32 := 0#32
  let v247 : BitVec 1 := Scalar.cmpi .ne v246 c0_i32_184
  let v248 : BitVec 1 := Scalar.andi v245 v247
  let v234 : BitVec 32 := Scalar.divsi arg5 c2_i32_179
  let c1_i32_185 : BitVec 32 := 1#32
  let v249 : BitVec 32 := Scalar.subi v234 c1_i32_185
  let v250 : BitVec 32 := Scalar.select v248 v249 v234
  let c512_i32_187 : BitVec 32 := 512#32
  let v253 : BitVec 32 := Scalar.muli v250 c512_i32_187
  let c2_i32_186 : BitVec 32 := 2#32
  let v251 : BitVec 32 := Scalar.muli v250 c2_i32_186
  let v252 : BitVec 32 := Scalar.subi arg5 v251
  let c8_i32 : BitVec 32 := 8#32
  let v254 : BitVec 32 := Scalar.muli v252 c8_i32
  let v255 : BitVec 32 := Scalar.addi v253 v254
  let v256 : BitVec 32 := Scalar.addi v255 c0_i32_188
  let v259 : Index := Scalar.indexCast v256
  let c0_191 : Index := 0#32
  ![v259.toNat, 0]
@[reducible] def k0_t7_loop : Scf.Loop 32 :=
  let c0_i32_31 : BitVec 32 := 0#32
  let c512_i32_32 : BitVec 32 := 512#32
  let v6 : BitVec 32 := Scalar.addi c0_i32_31 c512_i32_32
  let c1_i32_33 : BitVec 32 := 1#32
  ⟨c0_i32_31, v6, c1_i32_33⟩
def k0_off7 (k0_t7 : Fin k0_t7_loop.trips) (c0_i32_187 : BitVec 32) : Fin 2 → Nat :=
  let c0_i32_31 : BitVec 32 := 0#32
  let c1_i32_33 : BitVec 32 := 1#32
  let arg5 : BitVec 32 := Scf.iv c0_i32_31 c1_i32_33 k0_t7
  let c0_i32_180 : BitVec 32 := 0#32
  let v235 : BitVec 1 := Scalar.cmpi .sgt arg5 c0_i32_180
  let v236 : BitVec 32 := Scalar.extui v235
  let c0_i32_181 : BitVec 32 := 0#32
  let v237 : BitVec 1 := Scalar.cmpi .slt arg5 c0_i32_181
  let v238 : BitVec 32 := Scalar.extui v237
  let v239 : BitVec 32 := Scalar.subi v236 v238
  let c1_i32_179 : BitVec 32 := 1#32
  let c0_i32_182 : BitVec 32 := 0#32
  let v240 : BitVec 1 := Scalar.cmpi .sgt c1_i32_179 c0_i32_182
  let v241 : BitVec 32 := Scalar.extui v240
  let c0_i32_183 : BitVec 32 := 0#32
  let v242 : BitVec 1 := Scalar.cmpi .slt c1_i32_179 c0_i32_183
  let v243 : BitVec 32 := Scalar.extui v242
  let v244 : BitVec 32 := Scalar.subi v241 v243
  let v245 : BitVec 1 := Scalar.cmpi .ne v239 v244
  let v246 : BitVec 32 := Scalar.remsi arg5 c1_i32_179
  let c0_i32_184 : BitVec 32 := 0#32
  let v247 : BitVec 1 := Scalar.cmpi .ne v246 c0_i32_184
  let v248 : BitVec 1 := Scalar.andi v245 v247
  let v234 : BitVec 32 := Scalar.divsi arg5 c1_i32_179
  let c1_i32_185 : BitVec 32 := 1#32
  let v249 : BitVec 32 := Scalar.subi v234 c1_i32_185
  let v250 : BitVec 32 := Scalar.select v248 v249 v234
  let c16_i32 : BitVec 32 := 16#32
  let v253 : BitVec 32 := Scalar.muli v250 c16_i32
  let c1_i32_186 : BitVec 32 := 1#32
  let v251 : BitVec 32 := Scalar.muli v250 c1_i32_186
  let v252 : BitVec 32 := Scalar.subi arg5 v251
  let c8_i32 : BitVec 32 := 8#32
  let v254 : BitVec 32 := Scalar.muli v252 c8_i32
  let v255 : BitVec 32 := Scalar.addi v253 v254
  let v256 : BitVec 32 := Scalar.addi v255 c0_i32_187
  let v259 : Index := Scalar.indexCast v256
  let c0_190 : Index := 0#32
  ![v259.toNat, 0]
@[reducible] def k0_t8_loop : Scf.Loop 32 :=
  let c0_i32_37 : BitVec 32 := 0#32
  let c32_i32_38 : BitVec 32 := 32#32
  let v7 : BitVec 32 := Scalar.addi c0_i32_37 c32_i32_38
  let c1_i32_39 : BitVec 32 := 1#32
  ⟨c0_i32_37, v7, c1_i32_39⟩
def k0_off8 (k0_t8 : Fin k0_t8_loop.trips) (c0_i32_187 : BitVec 32) : Fin 2 → Nat :=
  let c0_i32_37 : BitVec 32 := 0#32
  let c1_i32_39 : BitVec 32 := 1#32
  let arg5 : BitVec 32 := Scf.iv c0_i32_37 c1_i32_39 k0_t8
  let c0_i32_180 : BitVec 32 := 0#32
  let v235 : BitVec 1 := Scalar.cmpi .sgt arg5 c0_i32_180
  let v236 : BitVec 32 := Scalar.extui v235
  let c0_i32_181 : BitVec 32 := 0#32
  let v237 : BitVec 1 := Scalar.cmpi .slt arg5 c0_i32_181
  let v238 : BitVec 32 := Scalar.extui v237
  let v239 : BitVec 32 := Scalar.subi v236 v238
  let c4_i32_179 : BitVec 32 := 4#32
  let c0_i32_182 : BitVec 32 := 0#32
  let v240 : BitVec 1 := Scalar.cmpi .sgt c4_i32_179 c0_i32_182
  let v241 : BitVec 32 := Scalar.extui v240
  let c0_i32_183 : BitVec 32 := 0#32
  let v242 : BitVec 1 := Scalar.cmpi .slt c4_i32_179 c0_i32_183
  let v243 : BitVec 32 := Scalar.extui v242
  let v244 : BitVec 32 := Scalar.subi v241 v243
  let v245 : BitVec 1 := Scalar.cmpi .ne v239 v244
  let v246 : BitVec 32 := Scalar.remsi arg5 c4_i32_179
  let c0_i32_184 : BitVec 32 := 0#32
  let v247 : BitVec 1 := Scalar.cmpi .ne v246 c0_i32_184
  let v248 : BitVec 1 := Scalar.andi v245 v247
  let v234 : BitVec 32 := Scalar.divsi arg5 c4_i32_179
  let c1_i32_185 : BitVec 32 := 1#32
  let v249 : BitVec 32 := Scalar.subi v234 c1_i32_185
  let v250 : BitVec 32 := Scalar.select v248 v249 v234
  let c1024_i32 : BitVec 32 := 1024#32
  let v253 : BitVec 32 := Scalar.muli v250 c1024_i32
  let c4_i32_186 : BitVec 32 := 4#32
  let v251 : BitVec 32 := Scalar.muli v250 c4_i32_186
  let v252 : BitVec 32 := Scalar.subi arg5 v251
  let c8_i32 : BitVec 32 := 8#32
  let v254 : BitVec 32 := Scalar.muli v252 c8_i32
  let v255 : BitVec 32 := Scalar.addi v253 v254
  let v256 : BitVec 32 := Scalar.addi v255 c0_i32_187
  let v259 : Index := Scalar.indexCast v256
  let c0_190 : Index := 0#32
  ![v259.toNat, 0]
@[reducible] def k0_t9_loop : Scf.Loop 32 :=
  let c0_i32_43 : BitVec 32 := 0#32
  let c256_i32_44 : BitVec 32 := 256#32
  let v8 : BitVec 32 := Scalar.addi c0_i32_43 c256_i32_44
  let c1_i32_45 : BitVec 32 := 1#32
  ⟨c0_i32_43, v8, c1_i32_45⟩
def k0_off9 (k0_t9 : Fin k0_t9_loop.trips) (c0_i32_188 : BitVec 32) : Fin 2 → Nat :=
  let c0_i32_43 : BitVec 32 := 0#32
  let c1_i32_45 : BitVec 32 := 1#32
  let arg5 : BitVec 32 := Scf.iv c0_i32_43 c1_i32_45 k0_t9
  let c0_i32_180 : BitVec 32 := 0#32
  let v235 : BitVec 1 := Scalar.cmpi .sgt arg5 c0_i32_180
  let v236 : BitVec 32 := Scalar.extui v235
  let c0_i32_181 : BitVec 32 := 0#32
  let v237 : BitVec 1 := Scalar.cmpi .slt arg5 c0_i32_181
  let v238 : BitVec 32 := Scalar.extui v237
  let v239 : BitVec 32 := Scalar.subi v236 v238
  let c1_i32_179 : BitVec 32 := 1#32
  let c0_i32_182 : BitVec 32 := 0#32
  let v240 : BitVec 1 := Scalar.cmpi .sgt c1_i32_179 c0_i32_182
  let v241 : BitVec 32 := Scalar.extui v240
  let c0_i32_183 : BitVec 32 := 0#32
  let v242 : BitVec 1 := Scalar.cmpi .slt c1_i32_179 c0_i32_183
  let v243 : BitVec 32 := Scalar.extui v242
  let v244 : BitVec 32 := Scalar.subi v241 v243
  let v245 : BitVec 1 := Scalar.cmpi .ne v239 v244
  let v246 : BitVec 32 := Scalar.remsi arg5 c1_i32_179
  let c0_i32_184 : BitVec 32 := 0#32
  let v247 : BitVec 1 := Scalar.cmpi .ne v246 c0_i32_184
  let v248 : BitVec 1 := Scalar.andi v245 v247
  let v234 : BitVec 32 := Scalar.divsi arg5 c1_i32_179
  let c1_i32_185 : BitVec 32 := 1#32
  let v249 : BitVec 32 := Scalar.subi v234 c1_i32_185
  let v250 : BitVec 32 := Scalar.select v248 v249 v234
  let c32_i32_187 : BitVec 32 := 32#32
  let v253 : BitVec 32 := Scalar.muli v250 c32_i32_187
  let c1_i32_186 : BitVec 32 := 1#32
  let v251 : BitVec 32 := Scalar.muli v250 c1_i32_186
  let v252 : BitVec 32 := Scalar.subi arg5 v251
  let c8_i32 : BitVec 32 := 8#32
  let v254 : BitVec 32 := Scalar.muli v252 c8_i32
  let v255 : BitVec 32 := Scalar.addi v253 v254
  let v256 : BitVec 32 := Scalar.addi v255 c0_i32_188
  let v259 : Index := Scalar.indexCast v256
  let c0_191 : Index := 0#32
  ![v259.toNat, 0]
@[reducible] def k0_t10_loop : Scf.Loop 32 :=
  let c0_i32_49 : BitVec 32 := 0#32
  let c32_i32_50 : BitVec 32 := 32#32
  let v9 : BitVec 32 := Scalar.addi c0_i32_49 c32_i32_50
  let c1_i32_51 : BitVec 32 := 1#32
  ⟨c0_i32_49, v9, c1_i32_51⟩
def k0_off10 (k0_t10 : Fin k0_t10_loop.trips) (c0_i32_187 : BitVec 32) : Fin 2 → Nat :=
  let c0_i32_49 : BitVec 32 := 0#32
  let c1_i32_51 : BitVec 32 := 1#32
  let arg5 : BitVec 32 := Scf.iv c0_i32_49 c1_i32_51 k0_t10
  let c0_i32_179 : BitVec 32 := 0#32
  let v235 : BitVec 1 := Scalar.cmpi .sgt arg5 c0_i32_179
  let v236 : BitVec 32 := Scalar.extui v235
  let c0_i32_180 : BitVec 32 := 0#32
  let v237 : BitVec 1 := Scalar.cmpi .slt arg5 c0_i32_180
  let v238 : BitVec 32 := Scalar.extui v237
  let v239 : BitVec 32 := Scalar.subi v236 v238
  let c8_i32 : BitVec 32 := 8#32
  let c0_i32_181 : BitVec 32 := 0#32
  let v240 : BitVec 1 := Scalar.cmpi .sgt c8_i32 c0_i32_181
  let v241 : BitVec 32 := Scalar.extui v240
  let c0_i32_182 : BitVec 32 := 0#32
  let v242 : BitVec 1 := Scalar.cmpi .slt c8_i32 c0_i32_182
  let v243 : BitVec 32 := Scalar.extui v242
  let v244 : BitVec 32 := Scalar.subi v241 v243
  let v245 : BitVec 1 := Scalar.cmpi .ne v239 v244
  let v246 : BitVec 32 := Scalar.remsi arg5 c8_i32
  let c0_i32_183 : BitVec 32 := 0#32
  let v247 : BitVec 1 := Scalar.cmpi .ne v246 c0_i32_183
  let v248 : BitVec 1 := Scalar.andi v245 v247
  let v234 : BitVec 32 := Scalar.divsi arg5 c8_i32
  let c1_i32_184 : BitVec 32 := 1#32
  let v249 : BitVec 32 := Scalar.subi v234 c1_i32_184
  let v250 : BitVec 32 := Scalar.select v248 v249 v234
  let c2048_i32 : BitVec 32 := 2048#32
  let v253 : BitVec 32 := Scalar.muli v250 c2048_i32
  let c8_i32_185 : BitVec 32 := 8#32
  let v251 : BitVec 32 := Scalar.muli v250 c8_i32_185
  let v252 : BitVec 32 := Scalar.subi arg5 v251
  let c8_i32_186 : BitVec 32 := 8#32
  let v254 : BitVec 32 := Scalar.muli v252 c8_i32_186
  let v255 : BitVec 32 := Scalar.addi v253 v254
  let v256 : BitVec 32 := Scalar.addi v255 c0_i32_187
  let v259 : Index := Scalar.indexCast v256
  let c0_190 : Index := 0#32
  ![v259.toNat, 0]
@[reducible] def k0_t11_loop : Scf.Loop 32 :=
  let c0_i32_55 : BitVec 32 := 0#32
  let c128_i32_56 : BitVec 32 := 128#32
  let v10 : BitVec 32 := Scalar.addi c0_i32_55 c128_i32_56
  let c1_i32_57 : BitVec 32 := 1#32
  ⟨c0_i32_55, v10, c1_i32_57⟩
def k0_off11 (k0_t11 : Fin k0_t11_loop.trips) (c0_i32_188 : BitVec 32) : Fin 2 → Nat :=
  let c0_i32_55 : BitVec 32 := 0#32
  let c1_i32_57 : BitVec 32 := 1#32
  let arg5 : BitVec 32 := Scf.iv c0_i32_55 c1_i32_57 k0_t11
  let c0_i32_180 : BitVec 32 := 0#32
  let v235 : BitVec 1 := Scalar.cmpi .sgt arg5 c0_i32_180
  let v236 : BitVec 32 := Scalar.extui v235
  let c0_i32_181 : BitVec 32 := 0#32
  let v237 : BitVec 1 := Scalar.cmpi .slt arg5 c0_i32_181
  let v238 : BitVec 32 := Scalar.extui v237
  let v239 : BitVec 32 := Scalar.subi v236 v238
  let c1_i32_179 : BitVec 32 := 1#32
  let c0_i32_182 : BitVec 32 := 0#32
  let v240 : BitVec 1 := Scalar.cmpi .sgt c1_i32_179 c0_i32_182
  let v241 : BitVec 32 := Scalar.extui v240
  let c0_i32_183 : BitVec 32 := 0#32
  let v242 : BitVec 1 := Scalar.cmpi .slt c1_i32_179 c0_i32_183
  let v243 : BitVec 32 := Scalar.extui v242
  let v244 : BitVec 32 := Scalar.subi v241 v243
  let v245 : BitVec 1 := Scalar.cmpi .ne v239 v244
  let v246 : BitVec 32 := Scalar.remsi arg5 c1_i32_179
  let c0_i32_184 : BitVec 32 := 0#32
  let v247 : BitVec 1 := Scalar.cmpi .ne v246 c0_i32_184
  let v248 : BitVec 1 := Scalar.andi v245 v247
  let v234 : BitVec 32 := Scalar.divsi arg5 c1_i32_179
  let c1_i32_185 : BitVec 32 := 1#32
  let v249 : BitVec 32 := Scalar.subi v234 c1_i32_185
  let v250 : BitVec 32 := Scalar.select v248 v249 v234
  let c64_i32_187 : BitVec 32 := 64#32
  let v253 : BitVec 32 := Scalar.muli v250 c64_i32_187
  let c1_i32_186 : BitVec 32 := 1#32
  let v251 : BitVec 32 := Scalar.muli v250 c1_i32_186
  let v252 : BitVec 32 := Scalar.subi arg5 v251
  let c8_i32 : BitVec 32 := 8#32
  let v254 : BitVec 32 := Scalar.muli v252 c8_i32
  let v255 : BitVec 32 := Scalar.addi v253 v254
  let v256 : BitVec 32 := Scalar.addi v255 c0_i32_188
  let v259 : Index := Scalar.indexCast v256
  let c0_191 : Index := 0#32
  ![v259.toNat, 0]
@[reducible] def k0_t12_loop : Scf.Loop 32 :=
  let c0_i32_61 : BitVec 32 := 0#32
  let c32_i32_62 : BitVec 32 := 32#32
  let v11 : BitVec 32 := Scalar.addi c0_i32_61 c32_i32_62
  let c1_i32_63 : BitVec 32 := 1#32
  ⟨c0_i32_61, v11, c1_i32_63⟩
def k0_off12 (k0_t12 : Fin k0_t12_loop.trips) (c0_i32_186 : BitVec 32) : Fin 2 → Nat :=
  let c0_i32_61 : BitVec 32 := 0#32
  let c1_i32_63 : BitVec 32 := 1#32
  let arg5 : BitVec 32 := Scf.iv c0_i32_61 c1_i32_63 k0_t12
  let c0_i32_179 : BitVec 32 := 0#32
  let v235 : BitVec 1 := Scalar.cmpi .sgt arg5 c0_i32_179
  let v236 : BitVec 32 := Scalar.extui v235
  let c0_i32_180 : BitVec 32 := 0#32
  let v237 : BitVec 1 := Scalar.cmpi .slt arg5 c0_i32_180
  let v238 : BitVec 32 := Scalar.extui v237
  let v239 : BitVec 32 := Scalar.subi v236 v238
  let c16_i32 : BitVec 32 := 16#32
  let c0_i32_181 : BitVec 32 := 0#32
  let v240 : BitVec 1 := Scalar.cmpi .sgt c16_i32 c0_i32_181
  let v241 : BitVec 32 := Scalar.extui v240
  let c0_i32_182 : BitVec 32 := 0#32
  let v242 : BitVec 1 := Scalar.cmpi .slt c16_i32 c0_i32_182
  let v243 : BitVec 32 := Scalar.extui v242
  let v244 : BitVec 32 := Scalar.subi v241 v243
  let v245 : BitVec 1 := Scalar.cmpi .ne v239 v244
  let v246 : BitVec 32 := Scalar.remsi arg5 c16_i32
  let c0_i32_183 : BitVec 32 := 0#32
  let v247 : BitVec 1 := Scalar.cmpi .ne v246 c0_i32_183
  let v248 : BitVec 1 := Scalar.andi v245 v247
  let v234 : BitVec 32 := Scalar.divsi arg5 c16_i32
  let c1_i32_184 : BitVec 32 := 1#32
  let v249 : BitVec 32 := Scalar.subi v234 c1_i32_184
  let v250 : BitVec 32 := Scalar.select v248 v249 v234
  let c4096_i32 : BitVec 32 := 4096#32
  let v253 : BitVec 32 := Scalar.muli v250 c4096_i32
  let c16_i32_185 : BitVec 32 := 16#32
  let v251 : BitVec 32 := Scalar.muli v250 c16_i32_185
  let v252 : BitVec 32 := Scalar.subi arg5 v251
  let c8_i32 : BitVec 32 := 8#32
  let v254 : BitVec 32 := Scalar.muli v252 c8_i32
  let v255 : BitVec 32 := Scalar.addi v253 v254
  let v256 : BitVec 32 := Scalar.addi v255 c0_i32_186
  let v259 : Index := Scalar.indexCast v256
  let c0_189 : Index := 0#32
  ![v259.toNat, 0]
@[reducible] def k0_t13_loop : Scf.Loop 32 :=
  let c0_i32_72 : BitVec 32 := 0#32
  let c64_i32_73 : BitVec 32 := 64#32
  let v24 : BitVec 32 := Scalar.addi c0_i32_72 c64_i32_73
  let c1_i32_74 : BitVec 32 := 1#32
  ⟨c0_i32_72, v24, c1_i32_74⟩
def k0_off13 (k0_t13 : Fin k0_t13_loop.trips) (c0_i32_188 : BitVec 32) : Fin 2 → Nat :=
  let c0_i32_72 : BitVec 32 := 0#32
  let c1_i32_74 : BitVec 32 := 1#32
  let arg5 : BitVec 32 := Scf.iv c0_i32_72 c1_i32_74 k0_t13
  let c0_i32_180 : BitVec 32 := 0#32
  let v235 : BitVec 1 := Scalar.cmpi .sgt arg5 c0_i32_180
  let v236 : BitVec 32 := Scalar.extui v235
  let c0_i32_181 : BitVec 32 := 0#32
  let v237 : BitVec 1 := Scalar.cmpi .slt arg5 c0_i32_181
  let v238 : BitVec 32 := Scalar.extui v237
  let v239 : BitVec 32 := Scalar.subi v236 v238
  let c1_i32_179 : BitVec 32 := 1#32
  let c0_i32_182 : BitVec 32 := 0#32
  let v240 : BitVec 1 := Scalar.cmpi .sgt c1_i32_179 c0_i32_182
  let v241 : BitVec 32 := Scalar.extui v240
  let c0_i32_183 : BitVec 32 := 0#32
  let v242 : BitVec 1 := Scalar.cmpi .slt c1_i32_179 c0_i32_183
  let v243 : BitVec 32 := Scalar.extui v242
  let v244 : BitVec 32 := Scalar.subi v241 v243
  let v245 : BitVec 1 := Scalar.cmpi .ne v239 v244
  let v246 : BitVec 32 := Scalar.remsi arg5 c1_i32_179
  let c0_i32_184 : BitVec 32 := 0#32
  let v247 : BitVec 1 := Scalar.cmpi .ne v246 c0_i32_184
  let v248 : BitVec 1 := Scalar.andi v245 v247
  let v234 : BitVec 32 := Scalar.divsi arg5 c1_i32_179
  let c1_i32_185 : BitVec 32 := 1#32
  let v249 : BitVec 32 := Scalar.subi v234 c1_i32_185
  let v250 : BitVec 32 := Scalar.select v248 v249 v234
  let c128_i32_187 : BitVec 32 := 128#32
  let v253 : BitVec 32 := Scalar.muli v250 c128_i32_187
  let c1_i32_186 : BitVec 32 := 1#32
  let v251 : BitVec 32 := Scalar.muli v250 c1_i32_186
  let v252 : BitVec 32 := Scalar.subi arg5 v251
  let c8_i32 : BitVec 32 := 8#32
  let v254 : BitVec 32 := Scalar.muli v252 c8_i32
  let v255 : BitVec 32 := Scalar.addi v253 v254
  let v256 : BitVec 32 := Scalar.addi v255 c0_i32_188
  let v259 : Index := Scalar.indexCast v256
  let c0_191 : Index := 0#32
  ![v259.toNat, 0]
@[reducible] def k0_t14_loop : Scf.Loop 32 :=
  let c0_i32_78 : BitVec 32 := 0#32
  let c32_i32_79 : BitVec 32 := 32#32
  let v25 : BitVec 32 := Scalar.addi c0_i32_78 c32_i32_79
  let c1_i32_80 : BitVec 32 := 1#32
  ⟨c0_i32_78, v25, c1_i32_80⟩
def k0_off14 (k0_t14 : Fin k0_t14_loop.trips) (c0_i32_187 : BitVec 32) : Fin 2 → Nat :=
  let c0_i32_78 : BitVec 32 := 0#32
  let c1_i32_80 : BitVec 32 := 1#32
  let arg5 : BitVec 32 := Scf.iv c0_i32_78 c1_i32_80 k0_t14
  let c0_i32_180 : BitVec 32 := 0#32
  let v235 : BitVec 1 := Scalar.cmpi .sgt arg5 c0_i32_180
  let v236 : BitVec 32 := Scalar.extui v235
  let c0_i32_181 : BitVec 32 := 0#32
  let v237 : BitVec 1 := Scalar.cmpi .slt arg5 c0_i32_181
  let v238 : BitVec 32 := Scalar.extui v237
  let v239 : BitVec 32 := Scalar.subi v236 v238
  let c32_i32_179 : BitVec 32 := 32#32
  let c0_i32_182 : BitVec 32 := 0#32
  let v240 : BitVec 1 := Scalar.cmpi .sgt c32_i32_179 c0_i32_182
  let v241 : BitVec 32 := Scalar.extui v240
  let c0_i32_183 : BitVec 32 := 0#32
  let v242 : BitVec 1 := Scalar.cmpi .slt c32_i32_179 c0_i32_183
  let v243 : BitVec 32 := Scalar.extui v242
  let v244 : BitVec 32 := Scalar.subi v241 v243
  let v245 : BitVec 1 := Scalar.cmpi .ne v239 v244
  let v246 : BitVec 32 := Scalar.remsi arg5 c32_i32_179
  let c0_i32_184 : BitVec 32 := 0#32
  let v247 : BitVec 1 := Scalar.cmpi .ne v246 c0_i32_184
  let v248 : BitVec 1 := Scalar.andi v245 v247
  let v234 : BitVec 32 := Scalar.divsi arg5 c32_i32_179
  let c1_i32_185 : BitVec 32 := 1#32
  let v249 : BitVec 32 := Scalar.subi v234 c1_i32_185
  let v250 : BitVec 32 := Scalar.select v248 v249 v234
  let c8192_i32 : BitVec 32 := 8192#32
  let v253 : BitVec 32 := Scalar.muli v250 c8192_i32
  let c32_i32_186 : BitVec 32 := 32#32
  let v251 : BitVec 32 := Scalar.muli v250 c32_i32_186
  let v252 : BitVec 32 := Scalar.subi arg5 v251
  let c8_i32 : BitVec 32 := 8#32
  let v254 : BitVec 32 := Scalar.muli v252 c8_i32
  let v255 : BitVec 32 := Scalar.addi v253 v254
  let v256 : BitVec 32 := Scalar.addi v255 c0_i32_187
  let v259 : Index := Scalar.indexCast v256
  let c0_190 : Index := 0#32
  ![v259.toNat, 0]
@[reducible] def k0_t15_loop : Scf.Loop 32 :=
  let c0_i32_92 : BitVec 32 := 0#32
  let c32_i32_93 : BitVec 32 := 32#32
  let v43 : BitVec 32 := Scalar.addi c0_i32_92 c32_i32_93
  let c1_i32_94 : BitVec 32 := 1#32
  ⟨c0_i32_92, v43, c1_i32_94⟩
def k0_off15 (k0_t15 : Fin k0_t15_loop.trips) (c0_i32_188 : BitVec 32) : Fin 2 → Nat :=
  let c0_i32_92 : BitVec 32 := 0#32
  let c1_i32_94 : BitVec 32 := 1#32
  let arg5 : BitVec 32 := Scf.iv c0_i32_92 c1_i32_94 k0_t15
  let c0_i32_180 : BitVec 32 := 0#32
  let v235 : BitVec 1 := Scalar.cmpi .sgt arg5 c0_i32_180
  let v236 : BitVec 32 := Scalar.extui v235
  let c0_i32_181 : BitVec 32 := 0#32
  let v237 : BitVec 1 := Scalar.cmpi .slt arg5 c0_i32_181
  let v238 : BitVec 32 := Scalar.extui v237
  let v239 : BitVec 32 := Scalar.subi v236 v238
  let c1_i32_179 : BitVec 32 := 1#32
  let c0_i32_182 : BitVec 32 := 0#32
  let v240 : BitVec 1 := Scalar.cmpi .sgt c1_i32_179 c0_i32_182
  let v241 : BitVec 32 := Scalar.extui v240
  let c0_i32_183 : BitVec 32 := 0#32
  let v242 : BitVec 1 := Scalar.cmpi .slt c1_i32_179 c0_i32_183
  let v243 : BitVec 32 := Scalar.extui v242
  let v244 : BitVec 32 := Scalar.subi v241 v243
  let v245 : BitVec 1 := Scalar.cmpi .ne v239 v244
  let v246 : BitVec 32 := Scalar.remsi arg5 c1_i32_179
  let c0_i32_184 : BitVec 32 := 0#32
  let v247 : BitVec 1 := Scalar.cmpi .ne v246 c0_i32_184
  let v248 : BitVec 1 := Scalar.andi v245 v247
  let v234 : BitVec 32 := Scalar.divsi arg5 c1_i32_179
  let c1_i32_185 : BitVec 32 := 1#32
  let v249 : BitVec 32 := Scalar.subi v234 c1_i32_185
  let v250 : BitVec 32 := Scalar.select v248 v249 v234
  let c256_i32_187 : BitVec 32 := 256#32
  let v253 : BitVec 32 := Scalar.muli v250 c256_i32_187
  let c1_i32_186 : BitVec 32 := 1#32
  let v251 : BitVec 32 := Scalar.muli v250 c1_i32_186
  let v252 : BitVec 32 := Scalar.subi arg5 v251
  let c8_i32 : BitVec 32 := 8#32
  let v254 : BitVec 32 := Scalar.muli v252 c8_i32
  let v255 : BitVec 32 := Scalar.addi v253 v254
  let v256 : BitVec 32 := Scalar.addi v255 c0_i32_188
  let v259 : Index := Scalar.indexCast v256
  let c0_191 : Index := 0#32
  ![v259.toNat, 0]
@[reducible] def k0_t16_loop : Scf.Loop 32 :=
  let c0_i32_105 : BitVec 32 := 0#32
  let c32_i32_106 : BitVec 32 := 32#32
  let v69 : BitVec 32 := Scalar.addi c0_i32_105 c32_i32_106
  let c1_i32_107 : BitVec 32 := 1#32
  ⟨c0_i32_105, v69, c1_i32_107⟩
def k0_off16 (k0_t16 : Fin k0_t16_loop.trips) (c0_i32_187 : BitVec 32) : Fin 2 → Nat :=
  let c0_i32_105 : BitVec 32 := 0#32
  let c1_i32_107 : BitVec 32 := 1#32
  let arg5 : BitVec 32 := Scf.iv c0_i32_105 c1_i32_107 k0_t16
  let c0_i32_180 : BitVec 32 := 0#32
  let v235 : BitVec 1 := Scalar.cmpi .sgt arg5 c0_i32_180
  let v236 : BitVec 32 := Scalar.extui v235
  let c0_i32_181 : BitVec 32 := 0#32
  let v237 : BitVec 1 := Scalar.cmpi .slt arg5 c0_i32_181
  let v238 : BitVec 32 := Scalar.extui v237
  let v239 : BitVec 32 := Scalar.subi v236 v238
  let c32_i32_179 : BitVec 32 := 32#32
  let c0_i32_182 : BitVec 32 := 0#32
  let v240 : BitVec 1 := Scalar.cmpi .sgt c32_i32_179 c0_i32_182
  let v241 : BitVec 32 := Scalar.extui v240
  let c0_i32_183 : BitVec 32 := 0#32
  let v242 : BitVec 1 := Scalar.cmpi .slt c32_i32_179 c0_i32_183
  let v243 : BitVec 32 := Scalar.extui v242
  let v244 : BitVec 32 := Scalar.subi v241 v243
  let v245 : BitVec 1 := Scalar.cmpi .ne v239 v244
  let v246 : BitVec 32 := Scalar.remsi arg5 c32_i32_179
  let c0_i32_184 : BitVec 32 := 0#32
  let v247 : BitVec 1 := Scalar.cmpi .ne v246 c0_i32_184
  let v248 : BitVec 1 := Scalar.andi v245 v247
  let v234 : BitVec 32 := Scalar.divsi arg5 c32_i32_179
  let c1_i32_185 : BitVec 32 := 1#32
  let v249 : BitVec 32 := Scalar.subi v234 c1_i32_185
  let v250 : BitVec 32 := Scalar.select v248 v249 v234
  let c8192_i32 : BitVec 32 := 8192#32
  let v253 : BitVec 32 := Scalar.muli v250 c8192_i32
  let c32_i32_186 : BitVec 32 := 32#32
  let v251 : BitVec 32 := Scalar.muli v250 c32_i32_186
  let v252 : BitVec 32 := Scalar.subi arg5 v251
  let c8_i32 : BitVec 32 := 8#32
  let v254 : BitVec 32 := Scalar.muli v252 c8_i32
  let v255 : BitVec 32 := Scalar.addi v253 v254
  let v256 : BitVec 32 := Scalar.addi v255 c0_i32_187
  let v259 : Index := Scalar.indexCast v256
  let c0_190 : Index := 0#32
  ![v259.toNat, 0]
@[reducible] def k0_t17_loop : Scf.Loop 32 :=
  let c0_i32_118 : BitVec 32 := 0#32
  let c32_i32_119 : BitVec 32 := 32#32
  let v87 : BitVec 32 := Scalar.addi c0_i32_118 c32_i32_119
  let c1_i32_120 : BitVec 32 := 1#32
  ⟨c0_i32_118, v87, c1_i32_120⟩
def k0_off17 (k0_t17 : Fin k0_t17_loop.trips) (c0_i32_188 : BitVec 32) : Fin 2 → Nat :=
  let c0_i32_118 : BitVec 32 := 0#32
  let c1_i32_120 : BitVec 32 := 1#32
  let arg5 : BitVec 32 := Scf.iv c0_i32_118 c1_i32_120 k0_t17
  let c0_i32_180 : BitVec 32 := 0#32
  let v235 : BitVec 1 := Scalar.cmpi .sgt arg5 c0_i32_180
  let v236 : BitVec 32 := Scalar.extui v235
  let c0_i32_181 : BitVec 32 := 0#32
  let v237 : BitVec 1 := Scalar.cmpi .slt arg5 c0_i32_181
  let v238 : BitVec 32 := Scalar.extui v237
  let v239 : BitVec 32 := Scalar.subi v236 v238
  let c1_i32_179 : BitVec 32 := 1#32
  let c0_i32_182 : BitVec 32 := 0#32
  let v240 : BitVec 1 := Scalar.cmpi .sgt c1_i32_179 c0_i32_182
  let v241 : BitVec 32 := Scalar.extui v240
  let c0_i32_183 : BitVec 32 := 0#32
  let v242 : BitVec 1 := Scalar.cmpi .slt c1_i32_179 c0_i32_183
  let v243 : BitVec 32 := Scalar.extui v242
  let v244 : BitVec 32 := Scalar.subi v241 v243
  let v245 : BitVec 1 := Scalar.cmpi .ne v239 v244
  let v246 : BitVec 32 := Scalar.remsi arg5 c1_i32_179
  let c0_i32_184 : BitVec 32 := 0#32
  let v247 : BitVec 1 := Scalar.cmpi .ne v246 c0_i32_184
  let v248 : BitVec 1 := Scalar.andi v245 v247
  let v234 : BitVec 32 := Scalar.divsi arg5 c1_i32_179
  let c1_i32_185 : BitVec 32 := 1#32
  let v249 : BitVec 32 := Scalar.subi v234 c1_i32_185
  let v250 : BitVec 32 := Scalar.select v248 v249 v234
  let c256_i32_187 : BitVec 32 := 256#32
  let v253 : BitVec 32 := Scalar.muli v250 c256_i32_187
  let c1_i32_186 : BitVec 32 := 1#32
  let v251 : BitVec 32 := Scalar.muli v250 c1_i32_186
  let v252 : BitVec 32 := Scalar.subi arg5 v251
  let c8_i32 : BitVec 32 := 8#32
  let v254 : BitVec 32 := Scalar.muli v252 c8_i32
  let v255 : BitVec 32 := Scalar.addi v253 v254
  let v256 : BitVec 32 := Scalar.addi v255 c0_i32_188
  let v259 : Index := Scalar.indexCast v256
  let c0_191 : Index := 0#32
  ![v259.toNat, 0]
@[reducible] def k0_t18_loop : Scf.Loop 32 :=
  let c0_i32_134 : BitVec 32 := 0#32
  let c32_i32_135 : BitVec 32 := 32#32
  let v132 : BitVec 32 := Scalar.addi c0_i32_134 c32_i32_135
  let c1_i32_136 : BitVec 32 := 1#32
  ⟨c0_i32_134, v132, c1_i32_136⟩
def k0_off18 (k0_t18 : Fin k0_t18_loop.trips) (c0_i32_187 : BitVec 32) : Fin 2 → Nat :=
  let c0_i32_134 : BitVec 32 := 0#32
  let c1_i32_136 : BitVec 32 := 1#32
  let arg5 : BitVec 32 := Scf.iv c0_i32_134 c1_i32_136 k0_t18
  let c0_i32_180 : BitVec 32 := 0#32
  let v235 : BitVec 1 := Scalar.cmpi .sgt arg5 c0_i32_180
  let v236 : BitVec 32 := Scalar.extui v235
  let c0_i32_181 : BitVec 32 := 0#32
  let v237 : BitVec 1 := Scalar.cmpi .slt arg5 c0_i32_181
  let v238 : BitVec 32 := Scalar.extui v237
  let v239 : BitVec 32 := Scalar.subi v236 v238
  let c32_i32_179 : BitVec 32 := 32#32
  let c0_i32_182 : BitVec 32 := 0#32
  let v240 : BitVec 1 := Scalar.cmpi .sgt c32_i32_179 c0_i32_182
  let v241 : BitVec 32 := Scalar.extui v240
  let c0_i32_183 : BitVec 32 := 0#32
  let v242 : BitVec 1 := Scalar.cmpi .slt c32_i32_179 c0_i32_183
  let v243 : BitVec 32 := Scalar.extui v242
  let v244 : BitVec 32 := Scalar.subi v241 v243
  let v245 : BitVec 1 := Scalar.cmpi .ne v239 v244
  let v246 : BitVec 32 := Scalar.remsi arg5 c32_i32_179
  let c0_i32_184 : BitVec 32 := 0#32
  let v247 : BitVec 1 := Scalar.cmpi .ne v246 c0_i32_184
  let v248 : BitVec 1 := Scalar.andi v245 v247
  let v234 : BitVec 32 := Scalar.divsi arg5 c32_i32_179
  let c1_i32_185 : BitVec 32 := 1#32
  let v249 : BitVec 32 := Scalar.subi v234 c1_i32_185
  let v250 : BitVec 32 := Scalar.select v248 v249 v234
  let c8192_i32 : BitVec 32 := 8192#32
  let v253 : BitVec 32 := Scalar.muli v250 c8192_i32
  let c32_i32_186 : BitVec 32 := 32#32
  let v251 : BitVec 32 := Scalar.muli v250 c32_i32_186
  let v252 : BitVec 32 := Scalar.subi arg5 v251
  let c8_i32 : BitVec 32 := 8#32
  let v254 : BitVec 32 := Scalar.muli v252 c8_i32
  let v255 : BitVec 32 := Scalar.addi v253 v254
  let v256 : BitVec 32 := Scalar.addi v255 c0_i32_187
  let v259 : Index := Scalar.indexCast v256
  let c0_190 : Index := 0#32
  ![v259.toNat, 0]
@[reducible] def k0_t19_loop : Scf.Loop 32 :=
  let c0_i32_146 : BitVec 32 := 0#32
  let c32_i32_147 : BitVec 32 := 32#32
  let v145 : BitVec 32 := Scalar.addi c0_i32_146 c32_i32_147
  let c1_i32_148 : BitVec 32 := 1#32
  ⟨c0_i32_146, v145, c1_i32_148⟩
def k0_off19 (k0_t19 : Fin k0_t19_loop.trips) (c0_i32_188 : BitVec 32) : Fin 2 → Nat :=
  let c0_i32_146 : BitVec 32 := 0#32
  let c1_i32_148 : BitVec 32 := 1#32
  let arg5 : BitVec 32 := Scf.iv c0_i32_146 c1_i32_148 k0_t19
  let c0_i32_180 : BitVec 32 := 0#32
  let v235 : BitVec 1 := Scalar.cmpi .sgt arg5 c0_i32_180
  let v236 : BitVec 32 := Scalar.extui v235
  let c0_i32_181 : BitVec 32 := 0#32
  let v237 : BitVec 1 := Scalar.cmpi .slt arg5 c0_i32_181
  let v238 : BitVec 32 := Scalar.extui v237
  let v239 : BitVec 32 := Scalar.subi v236 v238
  let c1_i32_179 : BitVec 32 := 1#32
  let c0_i32_182 : BitVec 32 := 0#32
  let v240 : BitVec 1 := Scalar.cmpi .sgt c1_i32_179 c0_i32_182
  let v241 : BitVec 32 := Scalar.extui v240
  let c0_i32_183 : BitVec 32 := 0#32
  let v242 : BitVec 1 := Scalar.cmpi .slt c1_i32_179 c0_i32_183
  let v243 : BitVec 32 := Scalar.extui v242
  let v244 : BitVec 32 := Scalar.subi v241 v243
  let v245 : BitVec 1 := Scalar.cmpi .ne v239 v244
  let v246 : BitVec 32 := Scalar.remsi arg5 c1_i32_179
  let c0_i32_184 : BitVec 32 := 0#32
  let v247 : BitVec 1 := Scalar.cmpi .ne v246 c0_i32_184
  let v248 : BitVec 1 := Scalar.andi v245 v247
  let v234 : BitVec 32 := Scalar.divsi arg5 c1_i32_179
  let c1_i32_185 : BitVec 32 := 1#32
  let v249 : BitVec 32 := Scalar.subi v234 c1_i32_185
  let v250 : BitVec 32 := Scalar.select v248 v249 v234
  let c256_i32_187 : BitVec 32 := 256#32
  let v253 : BitVec 32 := Scalar.muli v250 c256_i32_187
  let c1_i32_186 : BitVec 32 := 1#32
  let v251 : BitVec 32 := Scalar.muli v250 c1_i32_186
  let v252 : BitVec 32 := Scalar.subi arg5 v251
  let c8_i32 : BitVec 32 := 8#32
  let v254 : BitVec 32 := Scalar.muli v252 c8_i32
  let v255 : BitVec 32 := Scalar.addi v253 v254
  let v256 : BitVec 32 := Scalar.addi v255 c0_i32_188
  let v259 : Index := Scalar.indexCast v256
  let c0_191 : Index := 0#32
  ![v259.toNat, 0]
@[reducible] def k0_t20_loop : Scf.Loop 32 :=
  let c0_i32_163 : BitVec 32 := 0#32
  let c32_i32_164 : BitVec 32 := 32#32
  let v209 : BitVec 32 := Scalar.addi c0_i32_163 c32_i32_164
  let c1_i32_165 : BitVec 32 := 1#32
  ⟨c0_i32_163, v209, c1_i32_165⟩
def k0_off20 (k0_t20 : Fin k0_t20_loop.trips) (c0_i32_187 : BitVec 32) : Fin 2 → Nat :=
  let c0_i32_163 : BitVec 32 := 0#32
  let c1_i32_165 : BitVec 32 := 1#32
  let arg5 : BitVec 32 := Scf.iv c0_i32_163 c1_i32_165 k0_t20
  let c0_i32_180 : BitVec 32 := 0#32
  let v235 : BitVec 1 := Scalar.cmpi .sgt arg5 c0_i32_180
  let v236 : BitVec 32 := Scalar.extui v235
  let c0_i32_181 : BitVec 32 := 0#32
  let v237 : BitVec 1 := Scalar.cmpi .slt arg5 c0_i32_181
  let v238 : BitVec 32 := Scalar.extui v237
  let v239 : BitVec 32 := Scalar.subi v236 v238
  let c32_i32_179 : BitVec 32 := 32#32
  let c0_i32_182 : BitVec 32 := 0#32
  let v240 : BitVec 1 := Scalar.cmpi .sgt c32_i32_179 c0_i32_182
  let v241 : BitVec 32 := Scalar.extui v240
  let c0_i32_183 : BitVec 32 := 0#32
  let v242 : BitVec 1 := Scalar.cmpi .slt c32_i32_179 c0_i32_183
  let v243 : BitVec 32 := Scalar.extui v242
  let v244 : BitVec 32 := Scalar.subi v241 v243
  let v245 : BitVec 1 := Scalar.cmpi .ne v239 v244
  let v246 : BitVec 32 := Scalar.remsi arg5 c32_i32_179
  let c0_i32_184 : BitVec 32 := 0#32
  let v247 : BitVec 1 := Scalar.cmpi .ne v246 c0_i32_184
  let v248 : BitVec 1 := Scalar.andi v245 v247
  let v234 : BitVec 32 := Scalar.divsi arg5 c32_i32_179
  let c1_i32_185 : BitVec 32 := 1#32
  let v249 : BitVec 32 := Scalar.subi v234 c1_i32_185
  let v250 : BitVec 32 := Scalar.select v248 v249 v234
  let c8192_i32 : BitVec 32 := 8192#32
  let v253 : BitVec 32 := Scalar.muli v250 c8192_i32
  let c32_i32_186 : BitVec 32 := 32#32
  let v251 : BitVec 32 := Scalar.muli v250 c32_i32_186
  let v252 : BitVec 32 := Scalar.subi arg5 v251
  let c8_i32 : BitVec 32 := 8#32
  let v254 : BitVec 32 := Scalar.muli v252 c8_i32
  let v255 : BitVec 32 := Scalar.addi v253 v254
  let v256 : BitVec 32 := Scalar.addi v255 c0_i32_187
  let v259 : Index := Scalar.indexCast v256
  let c0_190 : Index := 0#32
  ![v259.toNat, 0]
@[reducible] def k0_t21_loop : Scf.Loop 32 :=
  let c0_i32_169 : BitVec 32 := 0#32
  let c32_i32_170 : BitVec 32 := 32#32
  let v210 : BitVec 32 := Scalar.addi c0_i32_169 c32_i32_170
  let c1_i32_171 : BitVec 32 := 1#32
  ⟨c0_i32_169, v210, c1_i32_171⟩
def k0_off21 (k0_t21 : Fin k0_t21_loop.trips) (c0_i32_188 : BitVec 32) : Fin 2 → Nat :=
  let c0_i32_169 : BitVec 32 := 0#32
  let c1_i32_171 : BitVec 32 := 1#32
  let arg5 : BitVec 32 := Scf.iv c0_i32_169 c1_i32_171 k0_t21
  let c0_i32_180 : BitVec 32 := 0#32
  let v235 : BitVec 1 := Scalar.cmpi .sgt arg5 c0_i32_180
  let v236 : BitVec 32 := Scalar.extui v235
  let c0_i32_181 : BitVec 32 := 0#32
  let v237 : BitVec 1 := Scalar.cmpi .slt arg5 c0_i32_181
  let v238 : BitVec 32 := Scalar.extui v237
  let v239 : BitVec 32 := Scalar.subi v236 v238
  let c1_i32_179 : BitVec 32 := 1#32
  let c0_i32_182 : BitVec 32 := 0#32
  let v240 : BitVec 1 := Scalar.cmpi .sgt c1_i32_179 c0_i32_182
  let v241 : BitVec 32 := Scalar.extui v240
  let c0_i32_183 : BitVec 32 := 0#32
  let v242 : BitVec 1 := Scalar.cmpi .slt c1_i32_179 c0_i32_183
  let v243 : BitVec 32 := Scalar.extui v242
  let v244 : BitVec 32 := Scalar.subi v241 v243
  let v245 : BitVec 1 := Scalar.cmpi .ne v239 v244
  let v246 : BitVec 32 := Scalar.remsi arg5 c1_i32_179
  let c0_i32_184 : BitVec 32 := 0#32
  let v247 : BitVec 1 := Scalar.cmpi .ne v246 c0_i32_184
  let v248 : BitVec 1 := Scalar.andi v245 v247
  let v234 : BitVec 32 := Scalar.divsi arg5 c1_i32_179
  let c1_i32_185 : BitVec 32 := 1#32
  let v249 : BitVec 32 := Scalar.subi v234 c1_i32_185
  let v250 : BitVec 32 := Scalar.select v248 v249 v234
  let c256_i32_187 : BitVec 32 := 256#32
  let v253 : BitVec 32 := Scalar.muli v250 c256_i32_187
  let c1_i32_186 : BitVec 32 := 1#32
  let v251 : BitVec 32 := Scalar.muli v250 c1_i32_186
  let v252 : BitVec 32 := Scalar.subi arg5 v251
  let c8_i32 : BitVec 32 := 8#32
  let v254 : BitVec 32 := Scalar.muli v252 c8_i32
  let v255 : BitVec 32 := Scalar.addi v253 v254
  let v256 : BitVec 32 := Scalar.addi v255 c0_i32_188
  let v259 : Index := Scalar.indexCast v256
  let c0_191 : Index := 0#32
  ![v259.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S4x8192x1024 : Shape := ⟨3, ![4, 8192, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Group.lean ====
/-
  One trip of a group pass, as a program over any two row-indexed buffers: `2 ^ g` pieces of eight
  rows are loaded, sent through `g` levels of compare-exchange, given their signs and stored. The
  kernel's twenty-one counted loops are this program at twenty-one configurations.
-/
module

public import Idealize.ShloMosaic.Lib.Scf
public import Idealize.ShloMosaic.PureOps
public import Idealize.ShloMosaic.Lib.Pipeline

@[expose] public section

noncomputable section

namespace Cert.Sort

open Idealize.ShloMosaic Idealize.SL.Sem

/-- The shape of one column block: 8192 rows of 128 lanes. -/
abbrev SB : Shape := ⟨2, ![8192, 128]⟩
/-- The shape of one piece: eight rows of 128 lanes. -/
abbrev SP : Shape := ⟨2, ![8, 128]⟩
/-- The shape of the sign pattern over a piece's rows. -/
abbrev SR : Shape := ⟨2, ![8, 1]⟩

variable {F : FTy → Type} [FloatOps F]

/-- A group pass: `2 ^ g` pieces spaced by `8 * c` rows; the bits of the row number whose parity
    signs what is loaded (`ld`) and what is stored (`hi` read from the base row, `lo` from the row
    inside the piece); and whether the loaded and stored pieces pass through a reshape to the shape
    they have. -/
structure Cfg where
  g : Nat
  c : Nat
  ld : List Nat
  hi : List Nat
  lo : List Nat
  cast : Bool

/-- The base row of trip `t`, as the kernel computes it on 32-bit words. -/
def base (C M : BitVec 32) (t : Nat) : BitVec 32 :=
  let a : BitVec 32 := Scf.iv 0#32 1#32 t
  let q : BitVec 32 := Scalar.divsi a C
  let s : BitVec 32 := Scalar.subi (Scalar.extui (Scalar.cmpi .sgt a 0#32)) (Scalar.extui (Scalar.cmpi .slt a 0#32))
  let s' : BitVec 32 := Scalar.subi (Scalar.extui (Scalar.cmpi .sgt C 0#32)) (Scalar.extui (Scalar.cmpi .slt C 0#32))
  let p : BitVec 1 := Scalar.andi (Scalar.cmpi .ne s s') (Scalar.cmpi .ne (Scalar.remsi a C) 0#32)
  let m : BitVec 32 := Scalar.select p (Scalar.subi q 1#32) q
  Scalar.addi (Scalar.muli m M) (Scalar.muli (Scalar.subi a (Scalar.muli m C)) 8#32)

/-- The base row of a configuration's trip. -/
def Cfg.base (κ : Cfg) (t : Nat) : BitVec 32 :=
  Sort.base (BitVec.ofNat 32 κ.c) (BitVec.ofNat 32 (2 ^ κ.g * (8 * κ.c))) t

/-- The offsets of the piece `r` of trip `t`. -/
def Cfg.off (κ : Cfg) (t r : Nat) : Fin 2 → Nat :=
  ![(Scalar.indexCast (Scalar.addi (κ.base t) (BitVec.ofNat 32 (8 * κ.c * r))) : Index).toNat, 0]

/-- Bit `q` of a word. -/
def wordBit (b : BitVec 32) (q : Nat) : BitVec 32 := Scalar.andi (Scalar.shrsi b (BitVec.ofNat 32 q)) 1#32

/-- The parity of the bits `q :: qs` of a word. -/
def parity (b : BitVec 32) (q : Nat) (qs : List Nat) : BitVec 32 :=
  qs.foldl (fun a q' => Scalar.xori a (wordBit b q')) (wordBit b q)

/-- The sign of a parity: `1 - 2 * parity`, converted. -/
def signOf (b : BitVec 32) (q : Nat) (qs : List Nat) : F .f32 :=
  Scalar.sitofp .f32 (Scalar.subi 1#32 (Scalar.muli 2#32 (parity b q qs)))

/-- The row numbers inside a piece. -/
def rows : IVec SR 32 := iota .tc SR 32 [0] (by decide)

/-- The sign pattern over the rows of a piece: `-1` where the parity of the bits is one. -/
def pattern (qs : List Nat) : FVec F SR .f32 :=
  select (cmpi .eq
      (qs.foldl (fun a q => xori a (andi (shrsi rows (broadcast SR (BitVec.ofNat 32 q))) (broadcast SR 1#32)))
        (broadcast SR 0#32))
      (broadcast SR 1#32))
    (broadcast SR (Scalar.ofBits .f32 0xBF800000#32)) (broadcast SR (Scalar.ofBits .f32 0x3F800000#32))

/-- A piece times the signs of a list of bits above the piece and a list of bits inside it. -/
def signed (hi lo : List Nat) (b : BitVec 32) (v : FVec F SP .f32) : FVec F SP .f32 :=
  match hi, lo with
  | [], [] => v
  | q :: qs, [] => mulf v (broadcast SP (signOf b q qs))
  | [], l :: ls => mulf v (broadcastTo SP (pattern (l :: ls)) (by decide))
  | q :: qs, l :: ls => mulf v (broadcastTo SP (mulf (pattern (l :: ls)) (broadcast SR (signOf b q qs))) (by decide))

/-- A piece, reshaped to its own shape where the configuration does so. -/
def recast (b : Bool) (v : FVec F SP .f32) : FVec F SP .f32 :=
  match b with
  | true => shapeCast SP v (by decide)
  | false => v

/-- One level of compare-exchange: pieces whose numbers differ in bit `l`, the smaller to the lower. -/
def level (l : Nat) (v : Nat → FVec F SP .f32) (i : Nat) : FVec F SP .f32 :=
  match i.testBit l with
  | true => maximumf (v (i - 2 ^ l)) (v i)
  | false => minimumf (v i) (v (i + 2 ^ l))

/-- The levels `g - 1` down to `0`. -/
def levels : Nat → (Nat → FVec F SP .f32) → Nat → FVec F SP .f32
  | 0, v => v
  | g + 1, v => levels g (level g v)

/-- The pieces that a trip stores, from those it loads. -/
def Cfg.out (κ : Cfg) (t : Nat) (v : Nat → FVec F SP .f32) (r : Nat) : FVec F SP .f32 :=
  recast κ.cast (signed κ.hi κ.lo (κ.base t)
    (levels κ.g (fun i => signed κ.ld [] (κ.base t) (recast κ.cast (v i))) r))

/-- A stack of pieces: `v` first, then those of `f`. -/
def push (v : FVec F SP .f32) (f : Nat → FVec F SP .f32) : Nat → FVec F SP .f32
  | 0 => v
  | i + 1 => f i

section Program

variable {nD : Nat} {τ : Topo} {sig : RefSig} {Λ : Labels}

/-- Load `n` pieces from number `r` on, then continue with them. -/
def loads (m : Memref sig .tc .vmem SB .f32) (off : Nat → Fin 2 → Nat) (N : Nat)
    (inb : ∀ r, r < N → ∀ a, off r a + SP.size a ≤ SB.size a) :
    (n r : Nat) → r + n ≤ N → ((Nat → FVec F SP .f32) → Prog (TpuEff nD τ sig (Elt F) Λ .tc) Unit) →
      Prog (TpuEff nD τ sig (Elt F) Λ .tc) Unit
  | 0, _, _, k => k fun _ => broadcast SP (Scalar.ofBits .f32 0#32)
  | n + 1, r, h, k =>
    .op (.load m (Rect.unit (s := SB) (off r) SP.size (inb r (by omega))).toLoadRect (View.loadsAt_vmem (by decide : 0 < SP.numel)))
      fun v => loads m off N inb n (r + 1) (by omega) fun f => k (push v f)

/-- Store `n` pieces from number `r` on, each after a load of what it replaces, then continue. -/
def stores (m : Memref sig .tc .vmem SB .f32) (off : Nat → Fin 2 → Nat) (N : Nat)
    (inb : ∀ r, r < N → ∀ a, off r a + SP.size a ≤ SB.size a) (w : Nat → FVec F SP .f32)
    (k : Prog (TpuEff nD τ sig (Elt F) Λ .tc) Unit) :
    (n r : Nat) → r + n ≤ N → Prog (TpuEff nD τ sig (Elt F) Λ .tc) Unit
  | 0, _, _ => k
  | n + 1, r, h =>
    .op (.load m (Rect.unit (s := SB) (off r) SP.size (inb r (by omega))).toLoadRect (View.loadsAt_vmem (by decide : 0 < SP.numel)))
      fun _ => .op (.store m (Rect.unit (s := SB) (off r) SP.size (inb r (by omega))) (w r) Finset.univ
          (View.stores_vmem_bits_univ (by decide : 0 < SP.numel) rfl) (.inl rfl))
        fun _ => stores m off N inb w k n (r + 1) (by omega)

/-- One trip of a group pass from `src` to `dst`. -/
def trip (κ : Cfg) (src dst : Memref sig .tc .vmem SB .f32) (t : Nat)
    (inb : ∀ r, r < 2 ^ κ.g → ∀ a, κ.off t r a + SP.size a ≤ SB.size a) :
    Prog (TpuEff nD τ sig (Elt F) Λ .tc) Unit :=
  loads src (κ.off t) (2 ^ κ.g) inb (2 ^ κ.g) 0 (by omega) fun v =>
    stores dst (κ.off t) (2 ^ κ.g) inb (κ.out t v) (.ret ()) (2 ^ κ.g) 0 (by omega)

end Program

end Cert.Sort

end
-- ==== Proof.Model.lean ====
/-
  The whole kernel body as a program over any three row-indexed buffers: twenty-one group passes,
  three compare-exchange passes inside the pieces, and the pass that moves every row to its place.
-/
module

public import proofs.«01_k».proof.Proof.Group
public import Mathlib.Tactic.Ring
public import Mathlib.Tactic.FinCases

@[expose] public section

noncomputable section

namespace Cert.Sort

open Idealize.ShloMosaic Idealize.SL.Sem

/-- The shape of one block: a leading axis of size one over the 8192 rows. -/
abbrev SX : Shape := ⟨3, ![1, 8192, 128]⟩
/-- The rows of a block in groups of eight. -/
abbrev SV : Shape := ⟨3, ![1024, 8, 128]⟩
/-- The shape of a pattern over the eight rows of a group. -/
abbrev SM : Shape := ⟨3, ![1, 8, 1]⟩
/-- The shape of every eighth row. -/
abbrev SW : Shape := ⟨2, ![1024, 128]⟩

/-! ### Where a trip's pieces lie -/

/-- The sizes the kernel's group passes have. -/
def Cfg.sizes : List (Nat × Nat) :=
  [(1, 1), (2, 1), (3, 1), (4, 1), (5, 1), (5, 2), (5, 4), (5, 8), (5, 16), (5, 32)]

/-- A configuration of one of those sizes. -/
def Cfg.Valid (κ : Cfg) : Prop := (κ.g, κ.c) ∈ Cfg.sizes

instance (κ : Cfg) : Decidable κ.Valid := inferInstanceAs (Decidable (_ ∈ _))

/-- The number of trips of a configuration. -/
def Cfg.trips (κ : Cfg) : Nat := 1024 / 2 ^ κ.g

/-- The first row of piece `r` of trip `t`. -/
def Cfg.row (κ : Cfg) (t r : Nat) : Nat := (t / κ.c) * (2 ^ κ.g * (8 * κ.c)) + (t % κ.c) * 8 + 8 * κ.c * r

/-- The base row on words is the base row on numbers, at every trip of every size. -/
theorem base_all : ∀ p ∈ Cfg.sizes, ∀ t < 1024 / 2 ^ p.1,
    (base (BitVec.ofNat 32 p.2) (BitVec.ofNat 32 (2 ^ p.1 * (8 * p.2))) t).toNat
      = (t / p.2) * (2 ^ p.1 * (8 * p.2)) + (t % p.2) * 8 := by
  decide +kernel

/-- What the sizes give: the pieces of all trips tile the 8192 rows. -/
theorem sizes_facts : ∀ p ∈ Cfg.sizes, 0 < p.2 ∧ p.2 ∣ 1024 / 2 ^ p.1 ∧ (1024 / 2 ^ p.1) * 2 ^ p.1 = 1024 := by
  decide +kernel

theorem Cfg.Valid.base_toNat {κ : Cfg} (h : κ.Valid) {t : Nat} (ht : t < κ.trips) :
    (κ.base t).toNat = (t / κ.c) * (2 ^ κ.g * (8 * κ.c)) + (t % κ.c) * 8 :=
  base_all (κ.g, κ.c) h t ht

theorem Cfg.Valid.pos {κ : Cfg} (h : κ.Valid) : 0 < κ.c := (sizes_facts _ h).1

/-- A piece ends inside the block. -/
theorem Cfg.Valid.row_le {κ : Cfg} (h : κ.Valid) {t r : Nat} (ht : t < κ.trips) (hr : r < 2 ^ κ.g) :
    κ.row t r + 8 ≤ 8192 := by
  obtain ⟨hc, ⟨w, hw⟩, hN⟩ := sizes_facts _ h
  simp only at hc hw hN
  unfold Cfg.trips at ht
  rw [hw] at ht hN
  have hq : t / κ.c + 1 ≤ w := (Nat.div_lt_iff_lt_mul hc).2 (by rwa [Nat.mul_comm] at ht)
  have hm : t % κ.c + 1 ≤ κ.c := Nat.mod_lt _ hc
  have hr' : r + 1 ≤ 2 ^ κ.g := hr
  unfold Cfg.row
  have e1 : (t / κ.c + 1) * (2 ^ κ.g * (8 * κ.c)) ≤ w * (2 ^ κ.g * (8 * κ.c)) := Nat.mul_le_mul_right _ hq
  have e2 : 8 * κ.c * (r + 1) ≤ 8 * κ.c * 2 ^ κ.g := Nat.mul_le_mul_left _ hr'
  have e3 : w * (2 ^ κ.g * (8 * κ.c)) = 8 * (κ.c * w * 2 ^ κ.g) := by ring
  have e4 : (t / κ.c + 1) * (2 ^ κ.g * (8 * κ.c)) = (t / κ.c) * (2 ^ κ.g * (8 * κ.c)) + 8 * κ.c * 2 ^ κ.g := by ring
  have e5 : 8 * κ.c * (r + 1) = 8 * κ.c * r + 8 * κ.c := by ring
  omega

/-- The offsets of a piece are its first row and lane zero. -/
theorem Cfg.Valid.off_eq {κ : Cfg} (h : κ.Valid) {t r : Nat} (ht : t < κ.trips) (hr : r < 2 ^ κ.g) :
    κ.off t r = ![κ.row t r, 0] := by
  have hle := h.row_le ht hr
  have hb := h.base_toNat ht
  have e : (Scalar.indexCast (Scalar.addi (κ.base t) (BitVec.ofNat 32 (8 * κ.c * r))) : Index).toNat = κ.row t r := by
    unfold Cfg.row at hle ⊢
    show (κ.base t + BitVec.ofNat 32 (8 * κ.c * r)).toNat = _
    rw [BitVec.toNat_add, hb, BitVec.toNat_ofNat]; omega
  unfold Cfg.off; rw [e]

/-- Every piece of every trip lies inside the block. -/
theorem Cfg.Valid.inb {κ : Cfg} (h : κ.Valid) {t : Nat} (ht : t < κ.trips) :
    ∀ r, r < 2 ^ κ.g → ∀ a, κ.off t r a + SP.size a ≤ SB.size a := by
  intro r hr a
  rw [h.off_eq ht hr]
  have := h.row_le ht hr
  fin_cases a <;> simp <;> omega

/-- The loop over the trips is in range, with that many trips. -/
theorem loop_facts : ∀ p ∈ Cfg.sizes, Scf.OK (0#32) (BitVec.ofNat 32 (1024 / 2 ^ p.1)) 1#32
    ∧ Scf.trips (0#32) (BitVec.ofNat 32 (1024 / 2 ^ p.1)) 1#32 = 1024 / 2 ^ p.1 := by
  decide +kernel

theorem Cfg.Valid.ok {κ : Cfg} (h : κ.Valid) : Scf.OK (0#32) (BitVec.ofNat 32 κ.trips) 1#32 := (loop_facts _ h).1

theorem Cfg.Valid.trips_eq {κ : Cfg} (h : κ.Valid) : Scf.trips (0#32) (BitVec.ofNat 32 κ.trips) 1#32 = κ.trips :=
  (loop_facts _ h).2

/-! ### The passes inside a group of eight rows -/

section Values

variable {F : FTy → Type} [FloatOps F]

/-- Rows `d` on, then the first `d`, of a block. -/
def up (d : Nat) (hd : d ≤ 8) (x : FVec F SB .f32) : FVec F SB .f32 :=
  concatenate SB 0
    [⟨⟨2, ![8192 - d, 128]⟩, extractStridedSlice ⟨2, ![8192 - d, 128]⟩ ![d, 0] x
        ⟨rfl, fun a => by fin_cases a <;> simp <;> omega⟩⟩,
     ⟨⟨2, ![d, 128]⟩, extractStridedSlice ⟨2, ![d, 128]⟩ ![0, 0] x
        ⟨rfl, fun a => by fin_cases a <;> simp <;> omega⟩⟩]
    ⟨by simp, by
      intro s hs; simp at hs
      rcases hs with rfl | rfl <;> exact ⟨rfl, fun b hb => by fin_cases b <;> simp at hb ⊢⟩, by
      simp; omega⟩

/-- The last `d` rows, then the others, of a block. -/
def down (d : Nat) (hd : d ≤ 8) (x : FVec F SB .f32) : FVec F SB .f32 :=
  concatenate SB 0
    [⟨⟨2, ![d, 128]⟩, extractStridedSlice ⟨2, ![d, 128]⟩ ![8192 - d, 0] x
        ⟨rfl, fun a => by fin_cases a <;> simp <;> omega⟩⟩,
     ⟨⟨2, ![8192 - d, 128]⟩, extractStridedSlice ⟨2, ![8192 - d, 128]⟩ ![0, 0] x
        ⟨rfl, fun a => by fin_cases a <;> simp⟩⟩]
    ⟨by simp, by
      intro s hs; simp at hs
      rcases hs with rfl | rfl <;> exact ⟨rfl, fun b hb => by fin_cases b <;> simp at hb ⊢⟩, by
      simp; omega⟩

/-- The row numbers in a group of eight. -/
def subRows : IVec SM 32 := iota .tc SM 32 [1] (by decide)

/-- The bit `d` of the row numbers in a group, as a word. -/
def subBit (d : BitVec 32) : IVec SM 32 := andi subRows (broadcast SM d)

/-- Where that bit is set. -/
def subSet (b : IVec SM 32) (z : BitVec 32) : IVec SM 1 := cmpi .ne b (broadcast SM z)

/-- The larger of a row and the one `d` before it where `hi` holds, elsewhere the smaller of it and
    the row `u` has for it. -/
def blend (d : Nat) (hd : d ≤ 8) (x : FVec F SB .f32) (hi : IVec SM 1) (u : FVec F SB .f32) : FVec F SB .f32 :=
  shapeCast SB
    (select (broadcastTo SV (shapeCast SM hi (by decide)) (by decide))
      (maximumf (shapeCast SV x (by decide)) (shapeCast SV (down d hd x) (by decide)))
      (minimumf (shapeCast SV x (by decide)) (shapeCast SV u (by decide)) : FVec F SV .f32)) (by decide)

/-- One compare-exchange pass at distance `d` inside the groups of eight rows. -/
def sub (d : Nat) (hd : d ≤ 8) (x : FVec F SB .f32) : FVec F SB .f32 :=
  blend d hd x (subSet (subBit (BitVec.ofNat 32 d)) 0#32) (up d hd x)

/-- A block without its leading axis. -/
def flatten (x : FVec F SX .f32) : FVec F SB .f32 := shapeCast SB x (by decide)

/-- A block with its leading axis. -/
def lift (x : FVec F SB .f32) : FVec F SX .f32 := shapeCast SX x (by decide)

/-- Every eighth row, from row `v` on. -/
def every (v : Nat) (hv : v < 8) (x : FVec F SV .f32) : FVec F SW .f32 :=
  shapeCast SW (extractStridedSlice ⟨3, ![1024, 1, 128]⟩ ![0, v, 0] x
    ⟨rfl, fun a => by fin_cases a <;> simp; omega⟩) (by decide)

/-- Eight blocks of every eighth row make a block. -/
theorem eight : Shape.Concatenates [SW, SW, SW, SW, SW, SW, SW, SW] SB 0 := by decide

/-- The rows whose number leaves `0` on division by eight, then those that leave `1`, and so on. -/
def spread (x : FVec F SB .f32) : FVec F SB .f32 :=
  let y : FVec F SV .f32 := shapeCast SV x (by decide)
  concatenate SB 0
    [⟨SW, every 0 (by decide) y⟩, ⟨SW, every 1 (by decide) y⟩, ⟨SW, every 2 (by decide) y⟩, ⟨SW, every 3 (by decide) y⟩,
     ⟨SW, every 4 (by decide) y⟩, ⟨SW, every 5 (by decide) y⟩, ⟨SW, every 6 (by decide) y⟩, ⟨SW, every 7 (by decide) y⟩]
    eight

end Values

/-! ### The program -/

section Program

variable {nD : Nat} {τ : Topo} {sig : RefSig} {Λ : Labels} {F : FTy → Type} [FloatOps F]

/-- A block memref, its whole rectangle, has the block's extent. -/
theorem whole_inb : ∀ a, (![0, 0, 0] : Fin 3 → Nat) a + SX.size a ≤ SX.size a := by decide

/-- The rectangle of a whole block. -/
abbrev wholeRect : Rect SX := Rect.unit (s := SX) ![0, 0, 0] SX.size whole_inb

/-- A block memref without its leading axis. -/
abbrev flat {K : Kind} (m : Memref sig K .vmem SX .f32) : Memref sig K .vmem SB .f32 :=
  (m.slice wholeRect (fun _ => rfl)).squeeze SB (by decide)

/-- A group pass. -/
def group (κ : Cfg) (h : κ.Valid) (src dst : Memref sig .tc .vmem SX .f32) :
    Prog (TpuEff nD τ sig (Elt F) Λ .tc) Unit :=
  Scf.for 0#32 (BitVec.ofNat 32 κ.trips) 1#32 h.ok () fun t _ =>
    trip κ (flat src) (flat dst) t.val (h.inb (Nat.lt_of_lt_of_eq t.isLt h.trips_eq))

/-- Read a whole block. -/
def get (m : Memref sig .tc .vmem SX .f32) : Prog (TpuEff nD τ sig (Elt F) Λ .tc) (Vec F SX .f32) :=
  Prog.lift (.load m wholeRect.toLoadRect (View.loadsAt_vmem (by decide : 0 < SX.numel)))

/-- Write a whole block. -/
def put (m : Memref sig .tc .vmem SX .f32) (x : FVec F SX .f32) : Prog (TpuEff nD τ sig (Elt F) Λ .tc) PUnit :=
  Prog.lift (.store m wholeRect x Finset.univ (View.stores_vmem_bits_univ (by decide : 0 < SX.numel) rfl) (.inl rfl))

variable (X O S : Memref sig .tc .vmem SX .f32)

/-- The steps up to size sixty-four, and the first pass of the next. -/
def stage1 : Prog (TpuEff nD τ sig (Elt F) Λ .tc) PUnit := do
  group ⟨1, 1, [4], [4, 5], [], false⟩ (by decide) X O
  group ⟨2, 1, [], [5, 6], [], true⟩ (by decide) O S
  group ⟨3, 1, [], [6, 7], [], false⟩ (by decide) S O
  group ⟨4, 1, [], [7, 8], [], true⟩ (by decide) O S
  group ⟨5, 1, [], [8, 9], [], false⟩ (by decide) S O
  group ⟨5, 2, [], [], [], true⟩ (by decide) O S
  group ⟨1, 1, [], [9, 10], [], false⟩ (by decide) S O
  pure ⟨⟩

/-- The steps of sizes 128 and 256, and the first pass of the next. -/
def stage2 : Prog (TpuEff nD τ sig (Elt F) Λ .tc) (Σ' (_ : FVec F SR .f32) (_ : BitVec 32), BitVec 32) := do
  group ⟨5, 4, [], [], [], true⟩ (by decide) O S
  group ⟨2, 1, [], [10, 11], [], false⟩ (by decide) S O
  group ⟨5, 8, [], [], [], true⟩ (by decide) O S
  group ⟨3, 1, [], [11, 12], [], false⟩ (by decide) S O
  group ⟨5, 16, [], [], [], true⟩ (by decide) O S
  pure ⟨pattern [0], 0#32, 64#32⟩

/-- The steps of sizes 512 and 1024, and the group passes of the next. -/
def stage3 : Prog (TpuEff nD τ sig (Elt F) Λ .tc) (Σ' (_ : FVec F SB .f32) (_ : IVec SM 1), FVec F SB .f32) := do
  group ⟨4, 1, [], [12], [0], false⟩ (by decide) S O
  group ⟨5, 32, [], [], [], true⟩ (by decide) O S
  group ⟨5, 1, [], [], [0, 1], false⟩ (by decide) S O
  let x : Vec F SX .f32 ← get O
  pure ⟨flatten x, subSet (subBit 1#32) 0#32, up 1 (by decide) (flatten x)⟩

/-- The end of the step of size 2048, and the group passes of the next. -/
def stage4 (x : FVec F SB .f32) (b : IVec SM 1) (u : FVec F SB .f32) :
    Prog (TpuEff nD τ sig (Elt F) Λ .tc) PUnit := do
  let _ : Vec F SX .f32 ← get S
  put S (lift (blend 1 (by decide) x b u))
  group ⟨5, 32, [], [], [], false⟩ (by decide) S O
  group ⟨5, 1, [], [], [1, 2], true⟩ (by decide) O S
  pure ⟨⟩

/-- The end of the step of size 4096. -/
def stage5 : Prog (TpuEff nD τ sig (Elt F) Λ .tc) (BitVec 32) := do
  let x : Vec F SX .f32 ← get S
  let _ : Vec F SX .f32 ← get O
  put O (lift (sub 1 (by decide) (sub 2 (by decide) (flatten x))))
  pure 0#32

/-- The first passes of the last step. -/
def stage6 : Prog (TpuEff nD τ sig (Elt F) Λ .tc)
    (Σ' (_ : IVec SM 32) (_ : FVec F SB .f32) (_ : IVec SM 32), BitVec 32) := do
  group ⟨5, 32, [], [], [], true⟩ (by decide) O S
  group ⟨5, 1, [], [], [2], false⟩ (by decide) S O
  let x : Vec F SX .f32 ← get O
  pure ⟨subRows, sub 4 (by decide) (flatten x), subBit 2#32, 0#32⟩

/-- The other passes of the last step. -/
def stage7 (r : IVec SM 32) (x : FVec F SB .f32) (b : IVec SM 32) (z : BitVec 32) :
    Prog (TpuEff nD τ sig (Elt F) Λ .tc) PUnit := do
  let _ : Vec F SX .f32 ← get S
  let y : FVec F SB .f32 := blend 2 (by decide) x (subSet b z) (up 2 (by decide) x)
  put S (lift (blend 1 (by decide) y (subSet (andi r (broadcast SM 1#32)) 0#32) (up 1 (by decide) y)))
  group ⟨5, 32, [], [], [], false⟩ (by decide) S O
  group ⟨5, 1, [], [], [], true⟩ (by decide) O S
  pure ⟨⟩

/-- The kernel body: sort the columns of `X`'s block into `O`'s, with `S`'s as a second buffer. -/
def body : Prog (TpuEff nD τ sig (Elt F) Λ .tc) PUnit := do
  stage1 X O S
  let ⟨_, _, _⟩ ← stage2 O S
  let ⟨x, b, u⟩ ← stage3 O S
  stage4 O S x b u
  let _ ← stage5 O S
  let ⟨r, y, b', z⟩ ← stage6 O S
  stage7 O S r y b' z
  let w : Vec F SX .f32 ← get S
  let _ : Vec F SX .f32 ← get O
  put O (lift (spread (flatten w)))
  pure ⟨⟩

end Program

end Cert.Sort

end
-- ==== Proof.BodyIdeal.lean ====
/-
  The printed kernel of `KernelIdeal` is the body program of `Model`.
-/
module

public import proofs.«01_k».proof.Proof.Model
public import proofs.«01_k».proof.Proof.Gen.KernelIdeal.Skeleton
public import Idealize.ShloMosaic.Lib.Tactic

@[expose] public section

noncomputable section

namespace Cert.KernelIdeal.Gen

open Idealize.ShloMosaic
open Cert.Sort (stage1 stage2 stage3 stage4 stage5 stage6 stage7 pattern subRows)

variable {F : FTy → Type} [FloatOps F]

set_option maxRecDepth 65536 in
/-- Part 1 of the printed kernel is part 1 of the body program, by computation. -/
theorem part1_eq (i : grid0.Coords) (arg2 : Memref sig .tc .vmem S1x8192x128 .f32) (harg2 : arg2.IsWhole)
    (arg3 : Memref sig .tc .vmem S1x8192x128 .f32) (harg3 : arg3.IsWhole)
    (arg4 : Memref sig .tc .vmem S1x8192x128 .f32) (harg4 : arg4.IsWhole) :
    k0_part219 (F := F) i arg2 harg2 arg3 harg3 arg4 harg4 = stage1 arg2 arg3 arg4 := by
  sl_kernel_rfl

set_option maxRecDepth 65536 in
/-- Part 2 of the printed kernel is part 2 of the body program, by computation. -/
theorem part2_eq (i : grid0.Coords) (arg2 : Memref sig .tc .vmem S1x8192x128 .f32) (harg2 : arg2.IsWhole)
    (arg3 : Memref sig .tc .vmem S1x8192x128 .f32) (harg3 : arg3.IsWhole)
    (arg4 : Memref sig .tc .vmem S1x8192x128 .f32) (harg4 : arg4.IsWhole) :
    k0_part220 (F := F) i arg2 harg2 arg3 harg3 arg4 harg4 = stage2 arg3 arg4 := by
  sl_kernel_rfl

set_option maxRecDepth 65536 in
/-- Part 3 of the printed kernel is part 3 of the body program, by computation. -/
theorem part3_eq (i : grid0.Coords) (arg2 : Memref sig .tc .vmem S1x8192x128 .f32) (harg2 : arg2.IsWhole)
    (arg3 : Memref sig .tc .vmem S1x8192x128 .f32) (harg3 : arg3.IsWhole)
    (arg4 : Memref sig .tc .vmem S1x8192x128 .f32) (harg4 : arg4.IsWhole) :
    k0_part221 (F := F) i arg2 harg2 arg3 harg3 arg4 harg4 (pattern [0]) 0#32 64#32 = stage3 arg3 arg4 := by
  sl_kernel_rfl

set_option maxRecDepth 65536 in
/-- Part 4 of the printed kernel is part 4 of the body program, by computation. -/
theorem part4_eq (i : grid0.Coords) (arg2 : Memref sig .tc .vmem S1x8192x128 .f32) (harg2 : arg2.IsWhole)
    (arg3 : Memref sig .tc .vmem S1x8192x128 .f32) (harg3 : arg3.IsWhole)
    (arg4 : Memref sig .tc .vmem S1x8192x128 .f32) (harg4 : arg4.IsWhole) (x : FVec F S8192x128 .f32) (b : IVec S1x8x1 1) (u : FVec F S8192x128 .f32) :
    k0_part222 (F := F) i arg2 harg2 arg3 harg3 arg4 harg4 x b u = stage4 arg3 arg4 x b u := by
  sl_kernel_rfl

set_option maxRecDepth 65536 in
/-- Part 5 of the printed kernel is part 5 of the body program, by computation. -/
theorem part5_eq (i : grid0.Coords) (arg2 : Memref sig .tc .vmem S1x8192x128 .f32) (harg2 : arg2.IsWhole)
    (arg3 : Memref sig .tc .vmem S1x8192x128 .f32) (harg3 : arg3.IsWhole)
    (arg4 : Memref sig .tc .vmem S1x8192x128 .f32) (harg4 : arg4.IsWhole) :
    k0_part223 (F := F) i arg2 harg2 arg3 harg3 arg4 harg4 = stage5 arg3 arg4 := by
  sl_kernel_rfl

set_option maxRecDepth 65536 in
/-- Part 6 of the printed kernel is part 6 of the body program, by computation. -/
theorem part6_eq (i : grid0.Coords) (arg2 : Memref sig .tc .vmem S1x8192x128 .f32) (harg2 : arg2.IsWhole)
    (arg3 : Memref sig .tc .vmem S1x8192x128 .f32) (harg3 : arg3.IsWhole)
    (arg4 : Memref sig .tc .vmem S1x8192x128 .f32) (harg4 : arg4.IsWhole) :
    k0_part224 (F := F) i arg2 harg2 arg3 harg3 arg4 harg4 0#32 = stage6 arg3 arg4 := by
  sl_kernel_rfl

set_option maxRecDepth 65536 in
/-- Part 7 of the printed kernel is part 7 of the body program, by computation. -/
theorem part7_eq (i : grid0.Coords) (arg2 : Memref sig .tc .vmem S1x8192x128 .f32) (harg2 : arg2.IsWhole)
    (arg3 : Memref sig .tc .vmem S1x8192x128 .f32) (harg3 : arg3.IsWhole)
    (arg4 : Memref sig .tc .vmem S1x8192x128 .f32) (harg4 : arg4.IsWhole) (x : FVec F S8192x128 .f32) (b : IVec S1x8x1 32) :
    k0_part225 (F := F) i arg2 harg2 arg3 harg3 arg4 harg4 subRows x b 0#32 = stage7 arg3 arg4 subRows x b 0#32 := by
  sl_kernel_rfl

/-- The printed kernel is the body program. -/
theorem kernel_eq (i : grid0.Coords) (arg2 : Memref sig .tc .vmem S1x8192x128 .f32) (harg2 : arg2.IsWhole)
    (arg3 : Memref sig .tc .vmem S1x8192x128 .f32) (harg3 : arg3.IsWhole)
    (arg4 : Memref sig .tc .vmem S1x8192x128 .f32) (harg4 : arg4.IsWhole) :
    cc0__sort_kernel (F := F) i arg2 harg2 arg3 harg3 arg4 harg4 = Sort.body arg2 arg3 arg4 := by
  rw [cc0__sort_kernel_eq_skeleton]
  unfold cc0__sort_kernel_skel Sort.body
  simp only [part1_eq, part2_eq, part4_eq, part5_eq, stage2, stage5, stage6, bind_assoc, pure_bind, part3_eq,
    part6_eq, part7_eq]
  rfl

end Cert.KernelIdeal.Gen

end
-- ==== Proof.Pass.lean ====
/-
  What one pass leaves of a whole block, as a function of what the block held before it; and what the
  whole body leaves, the composition of its passes.
-/
module

public import proofs.«01_k».proof.Proof.Model

@[expose] public section

noncomputable section

namespace Cert.Sort

open Idealize.ShloMosaic

/-- The element in row `r` and lane `l` of a block. -/
def cell (r : Nat) (l : Fin 128) : SB.Idx := fun a =>
  match a with
  | ⟨0, _⟩ => ⟨r % 8192, Nat.mod_lt _ (by decide)⟩
  | ⟨1, _⟩ => l

/-- The element in row `r` and lane `l` of a piece. -/
def pcell (r : Nat) (l : Fin 128) : SP.Idx := fun a =>
  match a with
  | ⟨0, _⟩ => ⟨r % 8, Nat.mod_lt _ (by decide)⟩
  | ⟨1, _⟩ => l

/-- The row and the lane of an element of a block. -/
def rowOf (x : SB.Idx) : Nat := (x 0).val
def laneOf (x : SB.Idx) : Fin 128 := x 1

theorem rowOf_lt (x : SB.Idx) : rowOf x < 8192 := (x 0).isLt

@[simp] theorem rowOf_cell {r : Nat} (h : r < 8192) (l : Fin 128) : rowOf (cell r l) = r := Nat.mod_eq_of_lt h
@[simp] theorem laneOf_cell (r : Nat) (l : Fin 128) : laneOf (cell r l) = l := rfl

/-- An element is the one in its row and lane. -/
theorem cell_eta (x : SB.Idx) : cell (rowOf x) (laneOf x) = x := by
  funext a
  fin_cases a
  · exact Fin.ext (Nat.mod_eq_of_lt (rowOf_lt x))
  · rfl

/-- The row and the lane of an element of a piece. -/
def prow (y : SP.Idx) : Nat := (y 0).val
def plane (y : SP.Idx) : Fin 128 := y 1

theorem prow_lt (y : SP.Idx) : prow y < 8 := (y 0).isLt

/-- A piece's element is the one in its row and lane. -/
theorem pcell_eta (y : SP.Idx) : pcell (prow y) (plane y) = y := by
  funext a
  fin_cases a
  · exact Fin.ext (Nat.mod_eq_of_lt (y 0).isLt)
  · rfl

/-! ### Which trip, piece and row of the piece a row is -/

namespace Cfg

/-- The trip that a row belongs to. -/
def tripOf (κ : Cfg) (r : Nat) : Nat := r / (8 * κ.c) / 2 ^ κ.g * κ.c + r / 8 % κ.c

/-- The piece that a row belongs to. -/
def pieceOf (κ : Cfg) (r : Nat) : Nat := r / (8 * κ.c) % 2 ^ κ.g

theorem pieceOf_lt (κ : Cfg) (r : Nat) : κ.pieceOf r < 2 ^ κ.g := Nat.mod_lt _ (Nat.two_pow_pos _)

/-- A row is the one its trip, piece and place say. -/
theorem Valid.row_decode {κ : Cfg} (h : κ.Valid) (r : Nat) : κ.row (κ.tripOf r) (κ.pieceOf r) + r % 8 = r := by
  have hc := h.pos
  unfold row tripOf pieceOf
  have e1 : (r / (8 * κ.c) / 2 ^ κ.g * κ.c + r / 8 % κ.c) / κ.c = r / (8 * κ.c) / 2 ^ κ.g := by
    rw [Nat.mul_comm, Nat.mul_add_div hc, Nat.div_eq_of_lt (Nat.mod_lt _ hc), Nat.add_zero]
  have e2 : (r / (8 * κ.c) / 2 ^ κ.g * κ.c + r / 8 % κ.c) % κ.c = r / 8 % κ.c := by
    rw [Nat.mul_comm, Nat.mul_add_mod, Nat.mod_mod]
  rw [e1, e2]
  have a1 := Nat.div_add_mod r (8 * κ.c)
  have a2 := Nat.div_add_mod (r / (8 * κ.c)) (2 ^ κ.g)
  have a3 : r % (8 * κ.c) = 8 * (r / 8 % κ.c) + r % 8 := by
    rw [Nat.mod_mul]; omega
  have a4 : 8 * κ.c * (r / (8 * κ.c)) = r / (8 * κ.c) / 2 ^ κ.g * (2 ^ κ.g * (8 * κ.c)) + 8 * κ.c * (r / (8 * κ.c) % 2 ^ κ.g) := by
    conv_lhs => rw [← a2]
    ring
  omega

/-- A row of a block is of some trip. -/
theorem Valid.tripOf_lt {κ : Cfg} (h : κ.Valid) {r : Nat} (hr : r < 8192) : κ.tripOf r < κ.trips := by
  obtain ⟨hc, ⟨w, hw⟩, hN⟩ := sizes_facts _ h
  simp only at hc hw hN
  unfold tripOf trips
  rw [hw] at hN ⊢
  have e : r / (8 * κ.c) / 2 ^ κ.g < w := by
    rw [Nat.div_div_eq_div_mul, Nat.div_lt_iff_lt_mul (Nat.mul_pos (Nat.mul_pos (by decide) hc) (Nat.two_pow_pos _))]
    have : w * (8 * κ.c * 2 ^ κ.g) = 8 * (κ.c * w * 2 ^ κ.g) := by ring
    omega
  have e' : (r / (8 * κ.c) / 2 ^ κ.g + 1) * κ.c ≤ w * κ.c := Nat.mul_le_mul_right _ e
  have hm : r / 8 % κ.c < κ.c := Nat.mod_lt _ hc
  rw [Nat.add_mul, Nat.one_mul] at e'
  rw [Nat.mul_comm κ.c w]
  omega

section

variable {κ : Cfg} (h : κ.Valid) {t i j : Nat} (hi : i < 2 ^ κ.g) (hj : j < 8)
include h hi hj

theorem Valid.row_div : (κ.row t i + j) / (8 * κ.c) = t / κ.c * 2 ^ κ.g + i := by
  have hc := h.pos
  have hm : t % κ.c < κ.c := Nat.mod_lt _ hc
  have e : κ.row t i + j = 8 * κ.c * (t / κ.c * 2 ^ κ.g + i) + (t % κ.c * 8 + j) := by unfold row; ring
  rw [e, Nat.mul_add_div (by omega), Nat.div_eq_of_lt (a := t % κ.c * 8 + j) (by omega), Nat.add_zero]

/-- The trip, the piece and the place of a row are those it is of. -/
theorem Valid.tripOf_row : κ.tripOf (κ.row t i + j) = t := by
  have hc := h.pos
  unfold tripOf
  rw [h.row_div hi hj]
  have e1 : (t / κ.c * 2 ^ κ.g + i) / 2 ^ κ.g = t / κ.c := by
    rw [Nat.mul_comm, Nat.mul_add_div (Nat.two_pow_pos _), Nat.div_eq_of_lt hi, Nat.add_zero]
  have e2 : (κ.row t i + j) / 8 = κ.c * (t / κ.c * 2 ^ κ.g + i) + t % κ.c := by
    have e : κ.row t i + j = 8 * (κ.c * (t / κ.c * 2 ^ κ.g + i) + t % κ.c) + j := by unfold row; ring
    rw [e, Nat.mul_add_div (by decide), Nat.div_eq_of_lt hj, Nat.add_zero]
  rw [e1, e2, Nat.mul_add_mod, Nat.mod_mod, Nat.div_add_mod']

theorem Valid.pieceOf_row : κ.pieceOf (κ.row t i + j) = i := by
  unfold pieceOf
  rw [h.row_div hi hj, Nat.mul_comm, Nat.mul_add_mod, Nat.mod_eq_of_lt hi]

omit h hi in
theorem row_mod : (κ.row t i + j) % 8 = j := by
  have e : κ.row t i + j = 8 * (t / κ.c * (2 ^ κ.g * κ.c) + t % κ.c + κ.c * i) + j := by unfold row; ring
  rw [e, Nat.mul_add_mod, Nat.mod_eq_of_lt hj]

end

end Cfg

/-! ### The passes on blocks -/

variable {F : FTy → Type} [FloatOps F]

/-- The first `n` of a sequence of pieces, zeros after them. -/
def stack (n : Nat) (p : Nat → FVec F SP .f32) (i : Nat) : FVec F SP .f32 :=
  if i < n then p i else broadcast SP (Scalar.ofBits .f32 0#32)

theorem stack_zero (p : Nat → FVec F SP .f32) : stack 0 p = fun _ => broadcast SP (Scalar.ofBits .f32 0#32) := by
  funext i; simp [stack]

theorem push_stack (n : Nat) (p : Nat → FVec F SP .f32) : push (p 0) (stack n fun i => p (i + 1)) = stack (n + 1) p := by
  funext i
  cases i with
  | zero => simp [push, stack]
  | succ i => simp [push, stack]

/-- The piece `i` of trip `t` in a block. -/
def Cfg.piece (κ : Cfg) (t : Nat) (X : FVec F SB .f32) (i : Nat) : FVec F SP .f32 :=
  fun y => X (cell (κ.row t i + prow y) (plane y))

/-- What a group pass leaves. -/
def Cfg.pass (κ : Cfg) (X : FVec F SB .f32) : FVec F SB .f32 := fun x =>
  κ.out (κ.tripOf (rowOf x)) (stack (2 ^ κ.g) (κ.piece (κ.tripOf (rowOf x)) X)) (κ.pieceOf (rowOf x))
    (pcell (rowOf x) (laneOf x))

theorem pcell_add {κ : Cfg} {t i j : Nat} (hj : j < 8) (l : Fin 128) : pcell (κ.row t i + j) l = pcell j l := by
  funext a
  fin_cases a
  · exact Fin.ext ((Cfg.row_mod hj).trans (Nat.mod_eq_of_lt hj).symm)
  · rfl

/-- At a piece of a trip, a group pass leaves what the trip stores there. -/
theorem Cfg.Valid.pass_at {κ : Cfg} (h : κ.Valid) (X : FVec F SB .f32) {t i : Nat} (ht : t < κ.trips) (hi : i < 2 ^ κ.g)
    (y : SP.Idx) :
    κ.pass X (cell (κ.row t i + prow y) (plane y)) = κ.out t (stack (2 ^ κ.g) (κ.piece t X)) i y := by
  have hy := prow_lt y
  have hlt : κ.row t i + prow y < 8192 := by have := h.row_le ht hi; omega
  unfold Cfg.pass
  rw [rowOf_cell hlt, laneOf_cell, h.tripOf_row hi hy, h.pieceOf_row hi hy, pcell_add hy, pcell_eta]

/-- The passes before the first inside the groups of eight rows. -/
def front (X : FVec F SB .f32) : FVec F SB .f32 :=
  ([⟨1, 1, [4], [4, 5], [], false⟩, ⟨2, 1, [], [5, 6], [], true⟩, ⟨3, 1, [], [6, 7], [], false⟩,
    ⟨4, 1, [], [7, 8], [], true⟩, ⟨5, 1, [], [8, 9], [], false⟩, ⟨5, 2, [], [], [], true⟩,
    ⟨1, 1, [], [9, 10], [], false⟩, ⟨5, 4, [], [], [], true⟩, ⟨2, 1, [], [10, 11], [], false⟩,
    ⟨5, 8, [], [], [], true⟩, ⟨3, 1, [], [11, 12], [], false⟩, ⟨5, 16, [], [], [], true⟩,
    ⟨4, 1, [], [12], [0], false⟩, ⟨5, 32, [], [], [], true⟩, ⟨5, 1, [], [], [0, 1], false⟩] : List Cfg).foldl
    (fun Y κ => κ.pass Y) X

/-- The end of the step of size 2048 and the group passes of the next. -/
def mid1 (X : FVec F SB .f32) : FVec F SB .f32 :=
  Cfg.pass ⟨5, 1, [], [], [1, 2], true⟩ (Cfg.pass ⟨5, 32, [], [], [], false⟩ (sub 1 (by decide) X))

/-- The end of the step of size 4096 and the first group passes of the last. -/
def mid2 (X : FVec F SB .f32) : FVec F SB .f32 :=
  Cfg.pass ⟨5, 1, [], [], [2], false⟩ (Cfg.pass ⟨5, 32, [], [], [], true⟩
    (sub 1 (by decide) (sub 2 (by decide) X)))

/-- The other passes of the last step. -/
def last (X : FVec F SB .f32) : FVec F SB .f32 :=
  Cfg.pass ⟨5, 1, [], [], [], true⟩ (Cfg.pass ⟨5, 32, [], [], [], false⟩
    (sub 1 (by decide) (sub 2 (by decide) (sub 4 (by decide) X))))

/-- What the body leaves in its output block. -/
def result (X : FVec F SX .f32) : FVec F SX .f32 :=
  lift (spread (last (mid2 (mid1 (front (flatten X))))))

end Cert.Sort

end
-- ==== Proof.Triple.lean ====
/-
  The body program run: each group pass leaves `Cfg.pass` of its source in its destination, and the
  whole body leaves `result` of its input block in its output block.
-/
module

public import proofs.«01_k».proof.Proof.Pass
public import Idealize.ShloMosaic.Rules.Step
public import Idealize.ShloMosaic.Lib.Memref
public import Idealize.ShloMosaic.Lib.Pipeline.Value

@[expose] public section

noncomputable section

namespace Cert.Sort

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Ix : Type} [DecidableEq Ix]
variable {Name : Type} [DecidableEq Name] {U : Type} [URA U] {Lvl : Type} [Preorder Lvl] {Λ : Labels}

local notation "𝕄" => MT nD τ sig Ix (Elt F) Name U Lvl

variable {defs : Defs nD τ sig (Elt F) Λ} (𝒱 : Variants) (c : Dev nD) (bd : Option 𝒱.V) (E : Set Name)

section Owned

variable {Val : EltTy → Type} {defs : Defs nD τ sig Val Λ} (c : Thread nD τ) (bd : Option 𝒱.V) (E : Set Name)
variable {cs : CoreSpace} {s : Shape} {e : EltTy} {m : Memref sig c.2.kind cs s e} {r : Rect s} {β : Type}
  {Q : β → sProp (MT nD τ sig Ix Val Name U Lvl)}

/-- A load through a rectangle of a memref that is owned. -/
theorem owns_load {hl : m.view.LoadsAt r} {k : (r.shape.Idx → Val e) → Prog (TpuEff nD τ sig Val Λ c.2) β}
    (q : PosShare TreeShare) (X : s.Idx → Val e) (w : r.shape.Idx → Val e) (hw : ∀ y, X (r.emb y) = w y) :
    (owns c m q X : sProp (MT nD τ sig Ix Val Name U Lvl))
      ⊢ iprop((owns c m q X -∗ wp frame (wpE defs 𝒱 c bd) E (k w) Q)
        -∗ wp frame (wpE defs 𝒱 c bd) E (.op (.load m r hl) k) Q) := by
  unfold owns
  iintro ⟨%f, %hf, H⟩ Hk
  have hS : (m.access r).set ⊆ m.view.set := View.set_slice_subset _ _
  iapply (wp_load_rect 𝒱 c bd E hS) $$ H
  iintro H
  have e : (m.access r).read Val f = w := funext fun y => (congrFun hf _).trans (hw y)
  rw [e]
  iapply Hk
  iexists f; isplitr
  · ipureintro; exact hf
  · iexact H

/-- A store through a rectangle of a memref that is owned whole. -/
theorem owns_store {w : r.shape.Idx → Val e} {hx : (m.access r).Stores Finset.univ}
    {hm : Finset.univ = Finset.univ ∨ ∀ a, r.stride a = 1}
    {k : PUnit → Prog (TpuEff nD τ sig Val Λ c.2) β} (X : s.Idx → Val e) :
    (owns c m fullShare X : sProp (MT nD τ sig Ix Val Name U Lvl))
      ⊢ iprop((∀ X' : s.Idx → Val e, ⌜(∀ y, X' (r.emb y) = w y) ∧ ∀ x, x ∉ Finset.univ.map r.emb → X' x = X x⌝ -∗
            owns c m fullShare X' -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  have hS : (m.access r).setOn Finset.univ ⊆ m.view.set := by rw [View.setOn_univ]; exact View.set_slice_subset _ _
  iapply (wp_store 𝒱 c bd E hS) $$ H
  iintro H
  ispecialize Hk $$ %(m.view.read Val ((m.access r).write Val f w Finset.univ))
  iapply Hk
  · ipureintro
    refine ⟨fun y => View.read_slice_write_emb _ _ _ (Finset.mem_univ y), fun x hx => ?_⟩
    rw [View.read_slice_write_of_not_mem _ _ _ _ hx, hf]
  · iexists _; isplitr
    · ipureintro; rfl
    · iexact H

end Owned

/-- The rectangle of a piece. -/
abbrev pieceRect (off : Nat → Fin 2 → Nat) (N : Nat) (inb : ∀ r, r < N → ∀ a, off r a + SP.size a ≤ SB.size a)
    (i : Nat) (hi : i < N) : Rect SB :=
  Rect.unit (s := SB) (off i) SP.size (inb i hi)

section Pieces

variable (m : Memref sig .tc .vmem SB .f32) (off : Nat → Fin 2 → Nat) (N : Nat)
  (inb : ∀ r, r < N → ∀ a, off r a + SP.size a ≤ SB.size a)

/-- A run of loads continues with the pieces of what the memref holds. -/
theorem wp_loads (X : FVec F SB .f32) (p : Nat → FVec F SP .f32)
    (hp : ∀ i (hi : i < N) (y : SP.Idx), X ((pieceRect off N inb i hi).emb y) = p i y) (Q : Unit → sProp 𝕄) :
    ∀ (n r : Nat) (h : r + n ≤ N) (k : (Nat → FVec F SP .f32) → Prog (TpuEff nD τ sig (Elt F) Λ .tc) Unit),
      (owns (c : Thread nD τ) m fullShare X : sProp 𝕄)
        ⊢ iprop((owns (c : Thread nD τ) m fullShare X -∗
              wp frame (wpE defs 𝒱 (c : Thread nD τ) bd) E (k (stack n fun i => p (r + i))) Q)
            -∗ wp frame (wpE defs 𝒱 (c : Thread nD τ) bd) E (loads m off N inb n r h k) Q) := by
  intro n
  induction n with
  | zero =>
    intro r h k
    rw [stack_zero]
    iintro H Hk
    iapply Hk; iexact H
  | succ n ih =>
    intro r h k
    unfold loads
    iintro H Hk
    iapply (owns_load 𝒱 (c : Thread nD τ) bd E fullShare X (p r) (hp r (by omega))) $$ H
    iintro H
    have e : k (stack (n + 1) fun i => p (r + i)) = (fun f => k (push (p r) f)) (stack n fun i => p (r + 1 + i)) := by
      have e₂ : (fun i => p (r + 1 + i)) = fun i => p (r + (i + 1)) := funext fun i => congrArg p (by omega)
      rw [e₂]
      exact congrArg k (push_stack n fun j => p (r + j)).symm
    rw [e]
    iapply (ih (r + 1) _ fun f => k (push (p r) f)) $$ H
    iexact Hk

/-- A run of stores makes the memref agree with `Z` at the pieces stored, if `Z` has there what is stored. -/
theorem wp_stores (Z : FVec F SB .f32) (w : Nat → FVec F SP .f32)
    (hw : ∀ i (hi : i < N) (y : SP.Idx), w i y = Z ((pieceRect off N inb i hi).emb y)) (Q : Unit → sProp 𝕄)
    (k : Prog (TpuEff nD τ sig (Elt F) Λ .tc) Unit) :
    ∀ (n r : Nat) (h : r + n ≤ N) (Y : FVec F SB .f32),
      (owns (c : Thread nD τ) m fullShare Y : sProp 𝕄)
        ⊢ iprop((∀ Y' : FVec F SB .f32, ⌜∀ x, (Y x = Z x ∨ ∃ i, ∃ hi : i < N, r ≤ i ∧ i < r + n ∧
                ∃ y : SP.Idx, x = (pieceRect off N inb i hi).emb y) → Y' x = Z x⌝ -∗
              owns (c : Thread nD τ) m fullShare Y' -∗ wp frame (wpE defs 𝒱 (c : Thread nD τ) bd) E k Q)
            -∗ wp frame (wpE defs 𝒱 (c : Thread nD τ) bd) E (stores m off N inb w k n r h) Q) := by
  intro n
  induction n with
  | zero =>
    intro r h Y
    iintro H Hk
    ispecialize Hk $$ %Y
    iapply Hk
    · ipureintro
      rintro x (hx | ⟨i, hi, h1, h2, _⟩)
      · exact hx
      · omega
    · iexact H
  | succ n ih =>
    intro r h Y
    have hr : r < N := by omega
    unfold stores
    iintro H Hk
    iapply (owns_load 𝒱 (c : Thread nD τ) bd E fullShare Y _ fun _ => rfl) $$ H
    iintro H
    iapply (owns_store 𝒱 (c : Thread nD τ) bd E Y) $$ H
    iintro %Y₁ %hY₁ H
    iapply (ih (r + 1) _ Y₁) $$ H
    iintro %Y' %hY' H
    ispecialize Hk $$ %Y'
    iapply Hk
    · ipureintro
      intro x hx
      apply hY'
      by_cases hm : x ∈ Finset.univ.map (pieceRect off N inb r hr).emb
      · left
        obtain ⟨y, -, rfl⟩ := Finset.mem_map.1 hm
        rw [hY₁.1 y]
        exact hw r hr y
      · rw [hY₁.2 x hm]
        rcases hx with hx | ⟨i, hi, h1, h2, y, rfl⟩
        · exact .inl hx
        · rcases Nat.lt_or_ge r i with h3 | h3
          · exact .inr ⟨i, hi, h3, by omega, y, rfl⟩
          · obtain rfl : i = r := by omega
            exact absurd (Finset.mem_map_of_mem _ (Finset.mem_univ y)) hm
    · iexact H

end Pieces

theorem flatten_lift (A : FVec F SB .f32) : flatten (lift A) = A := by
  funext j
  show A (Shape.reshapeEquiv _ (Shape.reshapeEquiv _ j)) = A j
  rw [Shape.reshapeEquiv_reshapeEquiv, Shape.reshapeEquiv_self]

theorem lift_flatten (X : FVec F SX .f32) : lift (flatten X) = X := by
  funext j
  show X (Shape.reshapeEquiv _ (Shape.reshapeEquiv _ j)) = X j
  rw [Shape.reshapeEquiv_reshapeEquiv, Shape.reshapeEquiv_self]

section Flat

variable (c : Thread nD τ) (m : Memref sig c.2.kind .vmem SX .f32) (q : PosShare TreeShare)

/-- The whole rectangle places every element where it is. -/
theorem wholeRect_emb (x : SX.Idx) : wholeRect.emb x = x := by
  funext a
  apply Fin.ext
  rw [Rect.emb_apply]
  fin_cases a <;> simp

/-- The flat memref has the elements of the block memref. -/
theorem flat_set : (flat m).view.set = m.view.set := by
  show ((m.view.slice wholeRect).reshape SB _).set = _
  rw [View.set_reshape]
  apply le_antisymm (View.set_slice_subset _ _)
  rw [View.set_slice]
  refine Finset.map_subset_map.2 fun x _ => ?_
  rw [← Rect.map_emb_univ, Finset.mem_map]
  exact ⟨x, Finset.mem_univ _, wholeRect_emb x⟩

/-- The flat memref reads the block without its leading axis. -/
theorem flat_read (f : m.view.ty.Contents (Elt F)) : (flat m).view.read (Elt F) f = flatten (F := F) (m.view.read (Elt F) f) := by
  funext j
  exact congrArg (m.view.read (Elt F) f) (wholeRect_emb _)

/-- Owning a block memref is owning it without its leading axis. -/
theorem owns_flat (A : FVec F SB .f32) :
    (owns c (flat m) q A : sProp 𝕄) = owns c m q (lift A) := by
  unfold owns
  have e : ∀ f : m.view.ty.Contents (Elt F), ((flat m).view.read (Elt F) f = A) = (m.view.read (Elt F) f = lift A) := by
    intro f
    rw [flat_read]
    exact propext ⟨fun h => by rw [← h, lift_flatten], fun h => by rw [h, flatten_lift]⟩
  have es := flat_set c m
  congr 1
  funext f
  rw [show ((flat m).view.read (Elt F) f = A) = _ from e f, es]

end Flat

section Runs

variable (κ : Cfg) (hκ : κ.Valid)

/-- One trip: the destination agrees afterwards with what the pass leaves wherever it did, and at the trip's rows. -/
theorem wp_trip (src dst : Memref sig .tc .vmem SB .f32) (t : Nat) (ht : t < κ.trips) (A Y : FVec F SB .f32)
    (Q : Unit → sProp 𝕄) :
    iprop(owns (c : Thread nD τ) src fullShare A ∗ owns (c : Thread nD τ) dst fullShare Y)
      ⊢ iprop((∀ Y' : FVec F SB .f32, ⌜∀ x, (Y x = κ.pass A x ∨ κ.tripOf (rowOf x) = t) → Y' x = κ.pass A x⌝ -∗
            owns (c : Thread nD τ) src fullShare A -∗ owns (c : Thread nD τ) dst fullShare Y' -∗ Q ())
        -∗ wp frame (wpE defs 𝒱 (c : Thread nD τ) bd) E (trip κ src dst t (hκ.inb ht)) Q) := by
  have hemb : ∀ i (hi : i < 2 ^ κ.g) (y : SP.Idx),
      (pieceRect (κ.off t) (2 ^ κ.g) (hκ.inb ht) i hi).emb y = cell (κ.row t i + prow y) (plane y) := by
    intro i hi y
    have hle := hκ.row_le ht hi
    have hy := prow_lt y
    funext a
    apply Fin.ext
    rw [Rect.emb_apply]
    show κ.off t i a + 1 * (y a).val = _
    rw [hκ.off_eq ht hi]
    fin_cases a
    · show κ.row t i + 1 * prow y = (κ.row t i + prow y) % 8192
      omega
    · show 0 + 1 * (plane y).val = (plane y).val
      omega
  unfold trip
  iintro ⟨HA, HY⟩ Hk
  iapply (wp_loads 𝒱 c bd E src (κ.off t) (2 ^ κ.g) (hκ.inb ht) A (κ.piece t A) (fun i hi y => by rw [hemb i hi y]; rfl)
    Q (2 ^ κ.g) 0 _ _) $$ HA
  iintro HA
  iapply (wp_stores 𝒱 c bd E dst (κ.off t) (2 ^ κ.g) (hκ.inb ht) (κ.pass A) _
    (fun i hi y => by
      rw [hemb i hi y, hκ.pass_at A ht hi y]
      simp only [Nat.zero_add]) Q _ (2 ^ κ.g) 0 _ Y) $$ HY
  iintro %Y' %hY' HY
  rw [wp_ret]
  imodintro
  ispecialize Hk $$ %Y'
  iapply Hk $$ [] HA HY
  ipureintro
  rintro x (hx | hx)
  · exact hY' x (.inl hx)
  · refine hY' x (.inr ⟨κ.pieceOf (rowOf x), κ.pieceOf_lt _, Nat.zero_le _, by rw [Nat.zero_add]; exact κ.pieceOf_lt _,
      pcell (rowOf x) (laneOf x), ?_⟩)
    rw [hemb]
    conv_lhs => rw [← cell_eta x, ← hκ.row_decode (rowOf x)]
    rw [hx]; rfl

/-- A group pass leaves in its destination what `Cfg.pass` makes of its source. -/
theorem wp_group (src dst : Memref sig .tc .vmem SX .f32) (A : FVec F SB .f32) (D : FVec F SX .f32) (Q : Unit → sProp 𝕄) :
    iprop(owns (c : Thread nD τ) src fullShare (lift A) ∗ owns (c : Thread nD τ) dst fullShare D)
      ⊢ iprop((owns (c : Thread nD τ) src fullShare (lift A) -∗ owns (c : Thread nD τ) dst fullShare (lift (κ.pass A)) -∗ Q ())
        -∗ wp frame (wpE defs 𝒱 (c : Thread nD τ) bd) E (group κ hκ src dst) Q) := by
  rw [← lift_flatten D, ← owns_flat, ← owns_flat, ← owns_flat]
  unfold group
  iintro ⟨HA, HD⟩ Hk
  iapply (Scf.wp_for frame (wpE defs 𝒱 (c : Thread nD τ) bd) E _ _ _ hκ.ok () _
    (fun t _ => iprop(∃ Y : FVec F SB .f32, ⌜∀ x, κ.tripOf (rowOf x) < t → Y x = κ.pass A x⌝ ∗
      owns (c : Thread nD τ) (flat src) fullShare A ∗ owns (c : Thread nD τ) (flat dst) fullShare Y)) ?_)
  · intro t _
    have ht : t.val < κ.trips := Nat.lt_of_lt_of_eq t.isLt hκ.trips_eq
    iintro ⟨%Y, %hY, HA, HD⟩
    iapply (wp_trip 𝒱 c bd E κ hκ (flat src) (flat dst) t.val ht A Y) $$ [HA HD]
    · isplitl [HA] <;> iassumption
    iintro %Y' %hY' HA HD
    iexists Y'
    isplitr
    · ipureintro
      intro x hx
      apply hY'
      rcases Nat.lt_or_ge (κ.tripOf (rowOf x)) t.val with h | h
      · exact .inl (hY x h)
      · exact .inr (by omega)
    isplitl [HA] <;> iassumption
  · isplitl [HA HD]
    · iexists flatten D
      isplitr
      · ipureintro; intro x hx; omega
      isplitl [HA] <;> iassumption
    iintro %_ ⟨%Y, %hY, HA, HD⟩
    have e : Y = κ.pass A := funext fun x => hY x (by rw [hκ.trips_eq]; exact hκ.tripOf_lt (rowOf_lt x))
    rw [e]
    iapply Hk $$ HA HD

/-- Reading a whole block. -/
theorem wp_get (m : Memref sig .tc .vmem SX .f32) (X : FVec F SX .f32) (Q : Vec F SX .f32 → sProp 𝕄) :
    owns (c : Thread nD τ) m fullShare X
      ⊢ iprop((owns (c : Thread nD τ) m fullShare X -∗ Q X)
        -∗ wp frame (wpE defs 𝒱 (c : Thread nD τ) bd) E (get m) Q) := by
  unfold get Prog.lift
  iintro H Hk
  iapply (owns_load 𝒱 (c : Thread nD τ) bd E fullShare X X fun y => congrArg X (wholeRect_emb y)) $$ H
  iintro H
  rw [wp_ret]
  imodintro
  iapply Hk $$ H

/-- Writing a whole block. -/
theorem wp_put (m : Memref sig .tc .vmem SX .f32) (X D : FVec F SX .f32) (Q : PUnit → sProp 𝕄) :
    owns (c : Thread nD τ) m fullShare D
      ⊢ iprop((owns (c : Thread nD τ) m fullShare X -∗ Q ⟨⟩)
        -∗ wp frame (wpE defs 𝒱 (c : Thread nD τ) bd) E (put m X) Q) := by
  unfold put Prog.lift
  iintro H Hk
  iapply (owns_store 𝒱 (c : Thread nD τ) bd E D) $$ H
  iintro %X' %hX' H
  have e : X' = X := funext fun x => (congrArg X' (wholeRect_emb x)).symm.trans (hX'.1 x)
  rw [e, wp_ret]
  imodintro
  iapply Hk $$ H

end Runs

end Cert.Sort

end
-- ==== Proof.BodyTriple.lean ====
/-
  The whole body run: it leaves `result` of its input block in its output block.
-/
module

public import proofs.«01_k».proof.Proof.Triple

@[expose] public section

noncomputable section

namespace Cert.Sort

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Ix : Type} [DecidableEq Ix]
variable {Name : Type} [DecidableEq Name] {U : Type} [URA U] {Lvl : Type} [Preorder Lvl] {Λ : Labels}

local notation "𝕄" => MT nD τ sig Ix (Elt F) Name U Lvl

variable {defs : Defs nD τ sig (Elt F) Λ} (𝒱 : Variants) (c : Dev nD) (bd : Option 𝒱.V) (E : Set Name)

section Heads

variable {α : Type}

/-- A group pass at the head of a program. -/
theorem wp_group_bind (κ : Cfg) (hκ : κ.Valid) (src dst : Memref sig .tc .vmem SX .f32) (A : FVec F SB .f32)
    (D : FVec F SX .f32) (k : Unit → Prog (TpuEff nD τ sig (Elt F) Λ .tc) α) (Q : α → sProp 𝕄) :
    iprop(owns (c : Thread nD τ) src fullShare (lift A) ∗ owns (c : Thread nD τ) dst fullShare D)
      ⊢ iprop((owns (c : Thread nD τ) src fullShare (lift A) -∗ owns (c : Thread nD τ) dst fullShare (lift (κ.pass A)) -∗
            wp frame (wpE defs 𝒱 (c : Thread nD τ) bd) E (k ()) Q)
        -∗ wp frame (wpE defs 𝒱 (c : Thread nD τ) bd) E (group κ hκ src dst >>= k) Q) := by
  rw [wp_bind]
  exact wp_group 𝒱 c bd E κ hκ src dst A D (fun a => wp frame (wpE defs 𝒱 (c : Thread nD τ) bd) E (k a) Q)

/-- A read of a whole block at the head of a program. -/
theorem wp_get_bind (m : Memref sig .tc .vmem SX .f32) (X : FVec F SX .f32)
    (k : Vec F SX .f32 → Prog (TpuEff nD τ sig (Elt F) Λ .tc) α) (Q : α → sProp 𝕄) :
    owns (c : Thread nD τ) m fullShare X
      ⊢ iprop((owns (c : Thread nD τ) m fullShare X -∗ wp frame (wpE defs 𝒱 (c : Thread nD τ) bd) E (k X) Q)
        -∗ wp frame (wpE defs 𝒱 (c : Thread nD τ) bd) E (get m >>= k) Q) := by
  rw [wp_bind]
  exact wp_get 𝒱 c bd E m X (fun a => wp frame (wpE defs 𝒱 (c : Thread nD τ) bd) E (k a) Q)

/-- A write of a whole block at the head of a program. -/
theorem wp_put_bind (m : Memref sig .tc .vmem SX .f32) (X D : FVec F SX .f32)
    (k : PUnit → Prog (TpuEff nD τ sig (Elt F) Λ .tc) α) (Q : α → sProp 𝕄) :
    owns (c : Thread nD τ) m fullShare D
      ⊢ iprop((owns (c : Thread nD τ) m fullShare X -∗ wp frame (wpE defs 𝒱 (c : Thread nD τ) bd) E (k ⟨⟩) Q)
        -∗ wp frame (wpE defs 𝒱 (c : Thread nD τ) bd) E (put m X >>= k) Q) := by
  rw [wp_bind]
  exact wp_put 𝒱 c bd E m X D (fun a => wp frame (wpE defs 𝒱 (c : Thread nD τ) bd) E (k a) Q)

/-- A pass inside the groups of rows at the head of a program: a read of the source, a read of the destination that
    nothing uses, and the write. -/
theorem wp_straight_bind (src dst : Memref sig .tc .vmem SX .f32) (f : FVec F SX .f32 → FVec F SX .f32)
    (A D : FVec F SX .f32) (k : PUnit → Prog (TpuEff nD τ sig (Elt F) Λ .tc) α) (Q : α → sProp 𝕄) :
    iprop(owns (c : Thread nD τ) src fullShare A ∗ owns (c : Thread nD τ) dst fullShare D)
      ⊢ iprop((owns (c : Thread nD τ) src fullShare A -∗ owns (c : Thread nD τ) dst fullShare (f A) -∗
            wp frame (wpE defs 𝒱 (c : Thread nD τ) bd) E (k ⟨⟩) Q)
        -∗ wp frame (wpE defs 𝒱 (c : Thread nD τ) bd) E
            (get src >>= fun x => get dst >>= fun _ => put dst (f x) >>= k) Q) := by
  iintro ⟨HA, HD⟩ Hk
  iapply (wp_get_bind 𝒱 c bd E src A) $$ HA
  iintro HA
  iapply (wp_get_bind 𝒱 c bd E dst D) $$ HD
  iintro HD
  iapply (wp_put_bind 𝒱 c bd E dst (f A) D) $$ HD
  iintro HD
  iapply Hk $$ HA HD

/-- Two group passes, there and back, at the head of a program. -/
theorem wp_pair_bind (κ κ' : Cfg) (hκ : κ.Valid) (hκ' : κ'.Valid) (src dst : Memref sig .tc .vmem SX .f32)
    (A : FVec F SB .f32) (D : FVec F SX .f32) (k : Unit → Prog (TpuEff nD τ sig (Elt F) Λ .tc) α) (Q : α → sProp 𝕄) :
    iprop(owns (c : Thread nD τ) src fullShare (lift A) ∗ owns (c : Thread nD τ) dst fullShare D)
      ⊢ iprop((owns (c : Thread nD τ) src fullShare (lift (κ'.pass (κ.pass A))) -∗
            (∃ D' : FVec F SX .f32, owns (c : Thread nD τ) dst fullShare D') -∗
            wp frame (wpE defs 𝒱 (c : Thread nD τ) bd) E (k ()) Q)
        -∗ wp frame (wpE defs 𝒱 (c : Thread nD τ) bd) E
            (group κ hκ src dst >>= fun _ => group κ' hκ' dst src >>= k) Q) := by
  iintro ⟨HA, HD⟩ Hk
  iapply (wp_group_bind 𝒱 c bd E κ hκ src dst A D) $$ [HA HD]
  · isplitl [HA] <;> iassumption
  iintro HA HD
  iapply (wp_group_bind 𝒱 c bd E κ' hκ' dst src (κ.pass A) (lift A)) $$ [HA HD]
  · isplitl [HD] <;> iassumption
  iintro HD HA
  iapply Hk $$ HA
  iexists _; iexact HD

end Heads

/-- The body leaves `result` of its input block in its output block. -/
theorem wp_body (X O S : Memref sig .tc .vmem SX .f32) (x d e : FVec F SX .f32) (Q : PUnit → sProp 𝕄) :
    iprop(owns (c : Thread nD τ) X fullShare x ∗ owns (c : Thread nD τ) O fullShare d ∗ owns (c : Thread nD τ) S fullShare e)
      ⊢ iprop((owns (c : Thread nD τ) X fullShare x -∗ owns (c : Thread nD τ) O fullShare (result x) -∗
            (∃ e' : FVec F SX .f32, owns (c : Thread nD τ) S fullShare e') -∗ Q ⟨⟩)
        -∗ wp frame (wpE defs 𝒱 (c : Thread nD τ) bd) E (body X O S) Q) := by
  unfold body
  simp only [stage1, stage2, stage3, stage4, stage5, stage6, stage7, bind_assoc, pure_bind]
  rw [← lift_flatten x]
  iintro ⟨HX, HO, HS⟩ Hk
  iapply (wp_group_bind 𝒱 c bd E _ _ X O (flatten x) d) $$ [HX HO]
  · isplitl [HX] <;> iassumption
  iintro HX HO
  iapply (wp_pair_bind 𝒱 c bd E _ _ _ _ O S) $$ [HO HS]
  · isplitl [HO] <;> iassumption
  iintro HO ⟨%_, HS⟩
  iapply (wp_pair_bind 𝒱 c bd E _ _ _ _ O S) $$ [HO HS]
  · isplitl [HO] <;> iassumption
  iintro HO ⟨%_, HS⟩
  iapply (wp_pair_bind 𝒱 c bd E _ _ _ _ O S) $$ [HO HS]
  · isplitl [HO] <;> iassumption
  iintro HO ⟨%_, HS⟩
  iapply (wp_pair_bind 𝒱 c bd E _ _ _ _ O S) $$ [HO HS]
  · isplitl [HO] <;> iassumption
  iintro HO ⟨%_, HS⟩
  iapply (wp_pair_bind 𝒱 c bd E _ _ _ _ O S) $$ [HO HS]
  · isplitl [HO] <;> iassumption
  iintro HO ⟨%_, HS⟩
  iapply (wp_pair_bind 𝒱 c bd E _ _ _ _ O S) $$ [HO HS]
  · isplitl [HO] <;> iassumption
  iintro HO ⟨%_, HS⟩
  iapply (wp_pair_bind 𝒱 c bd E _ _ _ _ O S) $$ [HO HS]
  · isplitl [HO] <;> iassumption
  iintro HO ⟨%s, HS⟩
  iapply (wp_straight_bind 𝒱 c bd E O S (fun v => lift (sub 1 _ (flatten v)))) $$ [HO HS]
  · isplitl [HO] <;> iassumption
  rw [flatten_lift]
  iintro HO HS
  iapply (wp_pair_bind 𝒱 c bd E _ _ _ _ S O) $$ [HO HS]
  · isplitl [HS] <;> iassumption
  iintro HS ⟨%_, HO⟩
  iapply (wp_straight_bind 𝒱 c bd E S O (fun v => lift (sub 1 _ (sub 2 _ (flatten v))))) $$ [HO HS]
  · isplitl [HS] <;> iassumption
  rw [flatten_lift]
  iintro HS HO
  iapply (wp_pair_bind 𝒱 c bd E _ _ _ _ O S) $$ [HO HS]
  · isplitl [HO] <;> iassumption
  iintro HO ⟨%_, HS⟩
  iapply (wp_straight_bind 𝒱 c bd E O S
    (fun v => lift (sub 1 _ (sub 2 _ (sub 4 _ (flatten v)))))) $$ [HO HS]
  · isplitl [HO] <;> iassumption
  rw [flatten_lift]
  iintro HO HS
  iapply (wp_pair_bind 𝒱 c bd E _ _ _ _ S O) $$ [HO HS]
  · isplitl [HS] <;> iassumption
  iintro HS ⟨%_, HO⟩
  iapply (wp_straight_bind 𝒱 c bd E S O (fun v => lift (spread (flatten v)))) $$ [HO HS]
  · isplitl [HS] <;> iassumption
  rw [flatten_lift]
  iintro HS HO
  rw [show (pure PUnit.unit : Prog (TpuEff nD τ sig (Elt F) Λ .tc) PUnit) = .ret PUnit.unit from rfl, wp_ret]
  imodintro
  iapply Hk $$ HX [HO]
  · unfold result last mid2 mid1 front
    rw [flatten_lift]
    iexact HO
  iexists _; iexact HS

end Cert.Sort

end
-- ==== Proof.RunIdeal.lean ====
/-
  The run of `KernelIdeal`: the body's triple at every grid point, the launch, the frame, and the arrays at the end.
-/
module

public import proofs.«01_k».proof.Proof.BodyIdeal
public import proofs.«01_k».proof.Proof.BodyTriple
public import proofs.«01_k».proof.Proof.Gen.KernelIdeal.Frame
public import Idealize.ShloMosaic.Lib.Claim

@[expose] public section

noncomputable section

namespace Cert.KernelIdeal.Sorted

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline: the arrays as they are at entry; after the body the input's buffer at its
    block and the output's at the sorted block; between points the scratch and the generator register at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => Sort.result (F := F) (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = Sort.result (F := F) (iblk m c 0 t) := by
  dsimp only [dats]

theorem before0_0 (c : Dev nD) (t : Fin cfg0.N) (d) : (dats m 0 c).before 0 t d = iblk m c 0 t :=
  before0_0_of m (dats m 0 c) (A_eq m c 0) (after0_0 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What the body returns at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the scratch comes out of the invariant, the body program runs, the scratch goes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [kernel_eq]
  simp only [before0_0]
  rw [show (dats m 0 c).Φ t.castSucc = Pipeline.ΦA spec0 c from rfl,
    show (dats m 0 c).Φ t.succ = Pipeline.ΦA spec0 c from rfl,
    show (dats m 0 c).owesAt () t.succ = (dats m 0 c).owesAt () t.castSucc from rfl,
    after0_0, after0_1]
  unfold Pipeline.ΦA
  rw [scopedRest0_eq]
  iintro ⟨⟨⟨%s, HS⟩, Hr⟩, Ho, ⟨%d0, HX⟩, ⟨%d1, HO⟩⟩
  iapply (Sort.wp_body (F := F) (defs := defs₀) Variants.none c none Set.univ (st0_0 t) (st0_1 t) (Memref.whole cc0_scratch0)
    (iblk m c 0 t) _ s) $$ [HX HO HS]
  · isplitl [HX]; · iexact HX
    isplitl [HO]; · iexact HO
    rw [owns_whole]; iexact HS
  iintro HX HO ⟨%s', HS⟩
  isplitl [HS Hr]
  · isplitl [HS]
    · iexists s'; rw [owns_whole]; exact .rfl
    · iexact Hr
  isplitl [Ho]; · iexact Ho
  isplitl [HX]; · iexact HX
  iexact HO

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: it terminates with every array at what the proof data give and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run : θ_run defs (onTc (τ := τ) (main (F := F))) (s₀ m ρ) (Pipeline.FramePost cfgs (dats m) 0 (V m)) :=
  (θ_run defs _ _).mono (fun _ h => h.1) (run_quiescent m ρ)

/-- The frame: the argument ends unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run m ρ)) ((θ_run defs _ _).mono (fun _ h => h.2) (run_quiescent m ρ))

end Cert.KernelIdeal.Sorted

end
-- ==== Proof.Network.lean ====
/-
  Compare-exchange on columns of 8192 extended reals: a column turned (negated where the parity of
  some bits of the position is odd), exchanged always with the smaller entry at the lower position,
  and turned again, is the bitonic network with its directions; and the same steps at positions whose
  thirteen bits are rotated by three.
-/
module

public import Idealize.ShloMosaic.Lib.SortNet.Sorts
public import Mathlib.Data.EReal.Operations
public import Mathlib.Tactic.IntervalCases

@[expose] public section

noncomputable section

namespace Cert.Sort

open Idealize.ShloMosaic.SortNet

/-- A column. -/
abbrev Col : Type := Fin (2 ^ 13) → EReal

/-- The parity of the bits `qs` of a number. -/
def mark (qs : List Nat) (r : Nat) : Bool := qs.foldl (fun a q => xor a (r.testBit q)) false

/-- A column negated where the parity of the bits `qs` of the position is odd. -/
def turn (qs : List Nat) (v : Col) : Col := fun i => if mark qs i.val then -(v i) else v i

/-- Compare-exchange of the positions that differ in bit `b`, the smaller entry to the lower. -/
def cx (b : Nat) (v : Col) : Col := fun i =>
  if i.val.testBit b then max (v (partner 13 b i)) (v i) else min (v i) (v (partner 13 b i))

/-- Compare-exchange at the bits `e + g - 1` down to `e`. -/
def merges (e : Nat) : Nat → Col → Col
  | 0, v => v
  | g + 1, v => merges e g (cx (e + g) v)

/-- Compare-exchanges at the bits above, then at those below, are those at all. -/
theorem merges_merges (e g h : Nat) (v : Col) : merges e g (merges (e + g) h v) = merges e (g + h) v := by
  induction h generalizing v with
  | zero => rfl
  | succ h ih =>
    show merges e g (merges (e + g) h (cx (e + g + h) v)) = merges e (g + h) (cx (e + (g + h)) v)
    rw [ih, Nat.add_assoc]

/-- The parity of no bits. -/
@[simp] theorem mark_nil (r : Nat) : mark [] r = false := rfl
/-- The parity of one bit. -/
@[simp] theorem mark_one (q r : Nat) : mark [q] r = r.testBit q := by simp [mark]
/-- The parity of two bits. -/
@[simp] theorem mark_two (q q' r : Nat) : mark [q, q'] r = xor (r.testBit q) (r.testBit q') := by simp [mark]

/-- Turning by no bits changes nothing. -/
theorem turn_nil (v : Col) : turn [] v = v := rfl

/-- Turning by two bits is turning by each. -/
theorem turn_turn (q q' : Nat) (v : Col) : turn [q'] (turn [q] v) = turn [q, q'] v := by
  funext i
  simp only [turn, mark_one, mark_two]
  cases i.val.testBit q <;> cases i.val.testBit q' <;> simp

/-- Turning by a bit above all of the position's changes nothing. -/
theorem turn_top (v : Col) : turn [13] v = v := by
  funext i
  simp only [turn, mark_one, Nat.testBit_lt_two_pow i.isLt, Bool.false_eq_true, if_false]

/-- The larger of two negatives. -/
theorem max_neg (a b : EReal) : max (-a) (-b) = -min a b := by
  rcases le_total a b with h | h
  · rw [min_eq_left h, max_eq_left (EReal.neg_le_neg_iff.2 h)]
  · rw [min_eq_right h, max_eq_right (EReal.neg_le_neg_iff.2 h)]

/-- The smaller of two negatives. -/
theorem min_neg (a b : EReal) : min (-a) (-b) = -max a b := by
  rcases le_total a b with h | h
  · rw [max_eq_right h, min_eq_right (EReal.neg_le_neg_iff.2 h)]
  · rw [max_eq_left h, min_eq_left (EReal.neg_le_neg_iff.2 h)]

/-- A partner has the other bits of a position. -/
theorem partner_testBit_of_ne {s t : Nat} (hs : s < 13) (h : t ≠ s) (i : Fin (2 ^ 13)) :
    (partner 13 s i).val.testBit t = i.val.testBit t := by
  rw [partner_val hs, Nat.testBit_xor, Nat.testBit_two_pow]
  simp [Ne.symm h]

/-- A partner has the opposite bit. -/
theorem partner_testBit_self {s : Nat} (hs : s < 13) (i : Fin (2 ^ 13)) :
    (partner 13 s i).val.testBit s = !i.val.testBit s := by
  rw [partner_val hs, Nat.testBit_xor, Nat.testBit_two_pow]
  simp

/-- A stage of the bitonic network, its directions read from a bit above its distance, is a plain
    compare-exchange between two turns by that bit. -/
theorem apply_stage_turn {s t : Nat} (hs : s < 13) (ht : t ≠ s) (v : Col) :
    Network.apply (stage 13 s fun i => decide (i.val &&& 2 ^ t = 0) == false) v = turn [t] (cx s (turn [t] v)) := by
  funext i
  have key : ∀ (j : Fin (2 ^ 13)), (decide (j.val &&& 2 ^ t = 0) == false) = j.val.testBit t := by
    intro j
    by_cases h : j.val.testBit t
    · have h' : ¬ (j.val &&& 2 ^ t = 0) := fun e => by rw [and_two_pow_eq_zero_iff_testBit, h] at e; cases e
      rw [h, decide_eq_false h']; rfl
    · have h' : j.val &&& 2 ^ t = 0 := (and_two_pow_eq_zero_iff_testBit _ _).2 (by simpa using h)
      rw [decide_eq_true h']; simpa using h
  have hw : (fun i : Fin (2 ^ 13) => decide (i.val &&& 2 ^ t = 0) == false) = fun i => i.val.testBit t := funext key
  rw [hw]
  by_cases hi : i.val.testBit s
  · have hc : (partner 13 s i).val &&& 2 ^ s = 0 := by
      rw [and_two_pow_eq_zero_iff_testBit, partner_testBit_self hs, hi]; rfl
    have h := (apply_stage hs (fun i => i.val.testBit t) v (partner 13 s i) hc).2
    rw [partner_partner hs] at h
    rw [h]
    simp only [turn, cx, mark_one, hi, if_true, partner_testBit_of_ne hs ht]
    cases i.val.testBit t
    · simp
    · simp [max_neg]
  · have hc : i.val &&& 2 ^ s = 0 := (and_two_pow_eq_zero_iff_testBit _ _).2 (by simpa using hi)
    rw [(apply_stage hs (fun i => i.val.testBit t) v i hc).1]
    simp only [turn, cx, mark_one, hi, partner_testBit_of_ne hs ht]
    cases i.val.testBit t
    · simp
    · simp [min_neg]

/-- One step of the bitonic sort: the stages at the bits `n - 1` down to `0` with directions of bit `t`. -/
theorem apply_step {t : Nat} (n : Nat) (hn : n ≤ 13) (ht : n ≤ t) (v : Col) :
    Network.apply ((List.range n).reverse.flatMap fun s => stage 13 s fun i => decide (i.val &&& 2 ^ t = 0) == false) v
      = turn [t] (merges 0 n (turn [t] v)) := by
  have htt : ∀ w : Col, turn [t] (turn [t] w) = w := fun w => by
    funext i; simp only [turn, mark_one]; cases i.val.testBit t <;> simp
  induction n generalizing v with
  | zero => exact (htt v).symm
  | succ n ih =>
    rw [List.range_succ, List.reverse_append, List.reverse_singleton, List.singleton_append, List.flatMap_cons,
      Network.apply_append, ih (by omega) (by omega), apply_stage_turn (by omega) (by omega), htt]
    show _ = turn [t] (merges 0 n (cx (0 + n) (turn [t] v)))
    rw [Nat.zero_add]

/-- The bitonic sort as turns and plain compare-exchanges. -/
theorem sort_eq (v : Col) : Network.apply (sortNet 13 false) v =
    merges 0 13 (turn [12] (merges 0 12 (turn [11, 12] (merges 0 11 (turn [10, 11] (merges 0 10 (turn [9, 10]
      (merges 0 9 (turn [8, 9] (merges 0 8 (turn [7, 8] (merges 0 7 (turn [6, 7] (merges 0 6 (turn [5, 6]
        (merges 0 5 (turn [4, 5] (merges 0 4 (turn [3, 4] (merges 0 3 (turn [2, 3] (merges 0 2 (turn [1, 2]
          (merges 0 1 (turn [1] v))))))))))))))))))))))))) := by
  have h : ∀ n, (hn : n ≤ 13) → ∀ w : Col, Network.apply ((List.range n).flatMap fun l =>
      (List.range (l + 1)).reverse.flatMap fun s => stage 13 s fun i => decide (i.val &&& 2 ^ (l + 1) = 0) == false) w
        = (List.range n).foldl (fun u l => turn [l + 1] (merges 0 (l + 1) (turn [l + 1] u))) w := by
    intro n
    induction n with
    | zero => intro _ w; rfl
    | succ n ih =>
      intro hn w
      rw [List.range_succ, List.flatMap_append, Network.apply_append, ih (by omega), List.foldl_append, List.flatMap_singleton,
        apply_step (n + 1) hn le_rfl]
      rfl
  unfold sortNet
  rw [h 13 le_rfl]
  have e : List.range 13 = [0, 1, 2, 3, 4, 5, 6, 7, 8, 9, 10, 11, 12] := by decide
  rw [e]
  simp only [List.foldl_cons, List.foldl_nil, Nat.reduceAdd, turn_top]
  simp only [turn_turn]

/-! ### Positions with their bits rotated -/

/-- The position whose bits are those of `i` rotated up by three. -/
def rot (i : Fin (2 ^ 13)) : Fin (2 ^ 13) := ⟨i.val % 1024 * 8 + i.val / 1024, by omega⟩

/-- The bits of a rotated place. -/
theorem rot_testBit {j : Nat} (hj : j < 13) (i : Fin (2 ^ 13)) : (rot i).val.testBit ((j + 3) % 13) = i.val.testBit j := by
  have hi : i.val < 8192 := i.isLt
  rw [Nat.testBit_eq_decide_div_mod_eq, Nat.testBit_eq_decide_div_mod_eq]
  show decide ((i.val % 1024 * 8 + i.val / 1024) / _ % 2 = 1) = _
  rw [decide_eq_decide]
  generalize i.val = x at hi
  obtain ⟨b, r, hb, hr, rfl⟩ : ∃ b r, b < 8 ∧ r < 1024 ∧ x = b * 1024 + r := ⟨x / 1024, x % 1024, by omega, by omega, by omega⟩
  have e1 : (b * 1024 + r) % 1024 = r := by omega
  have e2 : (b * 1024 + r) / 1024 = b := by omega
  rw [e1, e2]
  interval_cases b <;> interval_cases j <;> simp only [Nat.reduceAdd, Nat.reduceMod, Nat.reducePow] <;> omega

/-- Partners stay partners under the rotation, at the rotated bit. -/
theorem rot_partner {j : Nat} (hj : j < 13) (i : Fin (2 ^ 13)) : partner 13 ((j + 3) % 13) (rot i) = rot (partner 13 j i) := by
  have hj' : (j + 3) % 13 < 13 := Nat.mod_lt _ (by decide)
  have hi : i.val < 8192 := i.isLt
  have hb := rot_testBit hj i
  apply Fin.ext
  by_cases h : i.val.testBit j
  · have e1 := (partner_val_of_set hj i (by
      intro e; rw [and_two_pow_eq_zero_iff_testBit, h] at e; cases e)).2
    have e2 := (partner_val_of_set hj' (rot i) (by
      intro e; rw [and_two_pow_eq_zero_iff_testBit, hb, h] at e; cases e)).2
    rw [e2]
    show (i.val % 1024 * 8 + i.val / 1024) - _ = (partner 13 j i).val % 1024 * 8 + (partner 13 j i).val / 1024
    rw [e1]
    rw [Nat.testBit_eq_decide_div_mod_eq, decide_eq_true_eq] at h
    generalize i.val = x at hi h
    clear e1 e2 hb hj'
    obtain ⟨b, r, hb, hr, rfl⟩ : ∃ b r, b < 8 ∧ r < 1024 ∧ x = b * 1024 + r := ⟨x / 1024, x % 1024, by omega, by omega, by omega⟩
    interval_cases b <;> interval_cases j <;> simp only [Nat.reduceAdd, Nat.reduceMod, Nat.reducePow] at h ⊢ <;> omega
  · have e1 := partner_val_of_clear hj i (by rw [and_two_pow_eq_zero_iff_testBit]; simpa using h)
    have e2 := partner_val_of_clear hj' (rot i) (by rw [and_two_pow_eq_zero_iff_testBit, hb]; simpa using h)
    rw [e2]
    show (i.val % 1024 * 8 + i.val / 1024) + _ = (partner 13 j i).val % 1024 * 8 + (partner 13 j i).val / 1024
    rw [e1]
    rw [Nat.testBit_eq_decide_div_mod_eq, decide_eq_true_eq] at h
    generalize i.val = x at hi h
    clear e1 e2 hb hj'
    obtain ⟨b, r, hb, hr, rfl⟩ : ∃ b r, b < 8 ∧ r < 1024 ∧ x = b * 1024 + r := ⟨x / 1024, x % 1024, by omega, by omega, by omega⟩
    interval_cases b <;> interval_cases j <;> simp only [Nat.reduceAdd, Nat.reduceMod, Nat.reducePow] at h ⊢ <;> omega

/-- A column read at the rotated positions. -/
def unrot (v : Col) : Col := fun i => v (rot i)

/-- A compare-exchange at a rotated bit. -/
theorem unrot_cx {j : Nat} (hj : j < 13) (v : Col) : unrot (cx ((j + 3) % 13) v) = cx j (unrot v) := by
  funext i
  simp only [unrot, cx, rot_testBit hj, rot_partner hj]

/-- Compare-exchanges at consecutive rotated bits. -/
theorem unrot_merges {e g : Nat} (h : e + g ≤ 10) (v : Col) : unrot (merges (e + 3) g v) = merges e g (unrot v) := by
  induction g generalizing v with
  | zero => rfl
  | succ g ih =>
    show unrot (merges (e + 3) g (cx (e + 3 + g) v)) = merges e g (cx (e + g) (unrot v))
    rw [ih (by omega), ← unrot_cx (by omega : e + g < 13), Nat.mod_eq_of_lt (by omega), Nat.add_right_comm]

/-- A turn by a rotated bit. -/
theorem unrot_turn_one {j : Nat} (hj : j < 13) (v : Col) : unrot (turn [(j + 3) % 13] v) = turn [j] (unrot v) := by
  funext i
  simp only [unrot, turn, mark_one, rot_testBit hj]

/-- A turn by two rotated bits. -/
theorem unrot_turn_two {j k : Nat} (hj : j < 13) (hk : k < 13) (v : Col) :
    unrot (turn [(j + 3) % 13, (k + 3) % 13] v) = turn [j, k] (unrot v) := by
  funext i
  simp only [unrot, turn, mark_two, rot_testBit hj, rot_testBit hk]

/-- What the kernel does to a column, before it moves every row to its place. -/
def steps (v : Col) : Col :=
  merges 3 5 (merges 8 5 (cx 0 (cx 1 (cx 2
    (turn [2] (merges 3 5 (merges 8 5 (cx 0 (cx 1
      (turn [1, 2] (merges 3 5 (merges 8 5 (cx 0
        (turn [0, 1] (merges 3 5 (merges 8 5
          (turn [12, 0] (merges 3 4 (merges 7 5
            (turn [11, 12] (merges 3 3 (merges 6 5
              (turn [10, 11] (merges 3 2 (merges 5 5
                (turn [9, 10] (merges 3 1 (merges 4 5
                  (turn [8, 9] (merges 3 5 (turn [7, 8] (merges 3 4 (turn [6, 7] (merges 3 3
                    (turn [5, 6] (merges 3 2 (turn [4, 5] (merges 3 1 (turn [4] v)))))))))))))))))))))))))))))))))))))))

/-- Read at the rotated positions, that is the bitonic sort of the column so read. -/
theorem unrot_steps (v : Col) : unrot (steps v) = Network.apply (sortNet 13 false) (unrot v) := by
  have m (e g : Nat) (h : e + g ≤ 10) (w : Col) := unrot_merges h w
  have c (j : Nat) (h : j < 13) (w : Col) := unrot_cx h w
  have t1 (j : Nat) (h : j < 13) (w : Col) := unrot_turn_one h w
  have t2 (j k : Nat) (h : j < 13) (h' : k < 13) (w : Col) := unrot_turn_two h h' w
  have c10 := c 10 (by decide)
  have c11 := c 11 (by decide)
  have c12 := c 12 (by decide)
  simp only [Nat.reduceAdd, Nat.reduceMod] at c10 c11 c12
  have m5 := m 5 5 (by decide)
  have m4 := m 4 5 (by decide)
  have m3 := m 3 5 (by decide)
  have m2 := m 2 5 (by decide)
  have m1 := m 1 5 (by decide)
  have a1 := m 0 1 (by decide)
  have a2 := m 0 2 (by decide)
  have a3 := m 0 3 (by decide)
  have a4 := m 0 4 (by decide)
  have a5 := m 0 5 (by decide)
  simp only [Nat.reduceAdd] at m1 m2 m3 m4 m5 a1 a2 a3 a4 a5
  have s1 := t1 1 (by decide)
  have s12 := t1 12 (by decide)
  have p1 := t2 1 2 (by decide) (by decide)
  have p2 := t2 2 3 (by decide) (by decide)
  have p3 := t2 3 4 (by decide) (by decide)
  have p4 := t2 4 5 (by decide) (by decide)
  have p5 := t2 5 6 (by decide) (by decide)
  have p6 := t2 6 7 (by decide) (by decide)
  have p7 := t2 7 8 (by decide) (by decide)
  have p8 := t2 8 9 (by decide) (by decide)
  have p9 := t2 9 10 (by decide) (by decide)
  have p10 := t2 10 11 (by decide) (by decide)
  have p11 := t2 11 12 (by decide) (by decide)
  simp only [Nat.reduceAdd, Nat.reduceMod] at s1 s12 p1 p2 p3 p4 p5 p6 p7 p8 p9 p10 p11
  have b (g h : Nat) (w : Col) : merges 0 g (merges g h w) = merges 0 (g + h) w := by
    have := merges_merges 0 g h w
    rwa [Nat.zero_add] at this
  have d (g : Nat) (w : Col) : merges 0 g (cx g w) = merges 0 (g + 1) w := by
    show _ = merges 0 g (cx (0 + g) w)
    rw [Nat.zero_add]
  unfold steps
  simp only [c10, c11, c12, m1, m2, m3, m4, m5, a1, a2, a3, a4, a5, s1, s12, p1, p2, p3, p4, p5, p6, p7, p8, p9, p10, p11,
    b, d, Nat.reduceAdd]
  exact (sort_eq (unrot v)).symm

end Cert.Sort

end
-- ==== Proof.Signs.lean ====
/-
  The signs of a group pass on the extended reals: a piece is negated exactly where the parity of the
  listed bits of its row number is odd.
-/
module

public import proofs.«01_k».proof.Proof.Pass
public import proofs.«01_k».proof.Proof.Network
public import Idealize.ShloMosaic.Lib.Pipeline.Value
public import Idealize.ShloMosaic.Lib.IdealHost

@[expose] public section

noncomputable section

namespace Cert.Sort

open Idealize.ShloMosaic

/-- A bit as a word. -/
def bitWord (c : Bool) : BitVec 32 := bif c then 1#32 else 0#32

/-- Exclusive or of words that are bits is that of the bits. -/
theorem xor_bitWord (a c : Bool) : bitWord a ^^^ bitWord c = bitWord (xor a c) := by
  cases a <;> cases c <;> rfl

/-- The kernel's reading of a bit of a row number is that bit. -/
theorem wordBit_eq {b : BitVec 32} (hb : b.toNat < 8192) {q : Nat} (hq : q < 13) :
    wordBit b q = bitWord (b.toNat.testBit q) := by
  have hm : b.msb = false := by
    rw [BitVec.msb_eq_false_iff_two_mul_lt]; omega
  have hy : (BitVec.ofNat 32 q).toNat = q := by rw [BitVec.toNat_ofNat]; omega
  have e : Scalar.shrsi b (BitVec.ofNat 32 q) = b >>> q := by
    show (if (BitVec.ofNat 32 q).toNat < 32 then _ else _) = _
    rw [hy, if_pos (by omega)]
    show b.sshiftRight (BitVec.ofNat 32 q).toNat = _
    rw [hy, BitVec.sshiftRight_eq_of_msb_false hm]
  unfold wordBit
  rw [e]
  show b >>> q &&& 1#32 = _
  apply BitVec.eq_of_toNat_eq
  rw [BitVec.toNat_and, BitVec.toNat_ushiftRight]
  show (b.toNat >>> q) &&& 1 = _
  rw [Nat.and_one_is_mod, Nat.testBit_eq_decide_div_mod_eq, Nat.shiftRight_eq_div_pow]
  unfold bitWord
  by_cases h : b.toNat / 2 ^ q % 2 = 1
  · simp [h]
  · have : b.toNat / 2 ^ q % 2 = 0 := by omega
    simp [this]

/-- Taking the parity on words is taking it on bits. -/
theorem foldl_bitWord (w : Nat → BitVec 32) (f : Nat → Bool) :
    ∀ (qs : List Nat), (∀ q ∈ qs, w q = bitWord (f q)) → ∀ a : Bool,
      qs.foldl (fun a q => a ^^^ w q) (bitWord a) = bitWord (qs.foldl (fun a q => xor a (f q)) a)
  | [], _, _ => rfl
  | q :: qs, h, a => by
    rw [List.foldl_cons, List.foldl_cons, h q (by simp), xor_bitWord]
    exact foldl_bitWord w f qs (fun q' hq' => h q' (by simp [hq'])) _

/-- The parity of a list of bits, from its first. -/
theorem mark_cons (q : Nat) (qs : List Nat) (r : Nat) :
    mark (q :: qs) r = qs.foldl (fun a q => xor a (r.testBit q)) (r.testBit q) := by
  unfold mark
  rw [List.foldl_cons, Bool.false_xor]

/-- A bit comes out of a parity. -/
theorem foldl_xor (f : Nat → Bool) : ∀ (qs : List Nat) (a c : Bool),
    qs.foldl (fun a q => xor a (f q)) (xor a c) = xor a (qs.foldl (fun a q => xor a (f q)) c)
  | [], _, _ => rfl
  | q :: qs, a, c => by
    rw [List.foldl_cons, List.foldl_cons, Bool.xor_assoc]
    exact foldl_xor f qs a _

/-- The parity of two lists of bits is that of their parities. -/
theorem mark_append (ps qs : List Nat) (r : Nat) : mark (ps ++ qs) r = xor (mark ps r) (mark qs r) := by
  unfold mark
  rw [List.foldl_append]
  conv_lhs => rw [← Bool.xor_false (List.foldl _ false ps)]
  exact foldl_xor _ _ _ _

/-- A parity depends on the listed bits alone. -/
theorem foldl_congr {f f' : Nat → Bool} : ∀ (qs : List Nat), (∀ q ∈ qs, f q = f' q) → ∀ a : Bool,
    qs.foldl (fun a q => xor a (f q)) a = qs.foldl (fun a q => xor a (f' q)) a
  | [], _, _ => rfl
  | q :: qs, h, a => by
    rw [List.foldl_cons, List.foldl_cons, h q (by simp)]
    exact foldl_congr qs (fun q' hq' => h q' (by simp [hq'])) _

/-- Numbers with the same listed bits have the same parity. -/
theorem mark_congr {qs : List Nat} {r r' : Nat} (h : ∀ q ∈ qs, r.testBit q = r'.testBit q) : mark qs r = mark qs r' :=
  foldl_congr qs h _

/-- The kernel's parity of bits of a row number is their parity. -/
theorem parity_eq {b : BitVec 32} (hb : b.toNat < 8192) {q : Nat} {qs : List Nat} (hq : ∀ p ∈ q :: qs, p < 13) :
    parity b q qs = bitWord (mark (q :: qs) b.toNat) := by
  unfold parity
  rw [mark_cons, wordBit_eq hb (hq q (by simp))]
  exact foldl_bitWord _ _ qs (fun p hp => wordBit_eq hb (hq p (by simp [hp]))) _

/-- The sign of a bit. -/
def sgn (c : Bool) : EReal := bif c then -1 else 1

/-- A product with a sign is the number or its negative. -/
theorem sgn_mul (x : EReal) (c : Bool) : x * sgn c = bif c then -x else x := by
  cases c
  · exact mul_one x
  · show x * -1 = -x
    rw [mul_neg, mul_one]

/-- A product of signs is the sign of the parity. -/
theorem sgn_mul_sgn (a c : Bool) : sgn a * sgn c = sgn (xor c a) := by
  rw [sgn_mul]
  cases a <;> cases c <;> simp [sgn]

/-- One minus twice a bit, read as a number, is the sign of the bit. -/
theorem sgn_word (c : Bool) :
    (((1#32 - 2#32 * bitWord c).toInt : ℝ) : EReal) = sgn c := by
  cases c
  · have : (1#32 - 2#32 * bitWord false).toInt = 1 := by decide
    rw [this]; simp [sgn]
  · have : (1#32 - 2#32 * bitWord true).toInt = -1 := by decide
    rw [this]; simp [sgn]

/-- The sign that the kernel computes from bits of a base row. -/
theorem signOf_eq {b : BitVec 32} (hb : b.toNat < 8192) {q : Nat} {qs : List Nat} (hq : ∀ p ∈ q :: qs, p < 13) :
    (signOf b q qs : Ideal .f32) = sgn (mark (q :: qs) b.toNat) := by
  unfold signOf
  rw [parity_eq hb hq]
  exact sgn_word _

/-- A bit of the row numbers inside a piece. -/
theorem vecBit_eq {q : Nat} (hq : q < 3) (i : SR.Idx) :
    andi (shrsi rows (broadcast SR (BitVec.ofNat 32 q))) (broadcast SR 1#32) i = bitWord ((i 0).val.testBit q) := by
  have hi : (i 0).val < 8 := (i 0).isLt
  have e : rows i = BitVec.ofNat 32 (i 0).val := iota_single_apply .tc SR 32 0 (by decide) i
  show IntOp.shrsi .vector (rows i) (BitVec.ofNat 32 q) &&& 1#32 = _
  rw [e]
  generalize (i 0).val = r at hi ⊢
  interval_cases q <;> interval_cases r <;> rfl

/-- The parity of bits of the row numbers inside a piece. -/
theorem vecFold_eq (i : SR.Idx) : ∀ (qs : List Nat), (∀ q ∈ qs, q < 3) → ∀ (A : IVec SR 32) (a : Bool), A i = bitWord a →
    qs.foldl (fun a q => xori a (andi (shrsi rows (broadcast SR (BitVec.ofNat 32 q))) (broadcast SR 1#32))) A i
      = bitWord (qs.foldl (fun a q => xor a ((i 0).val.testBit q)) a)
  | [], _, _, _, h => h
  | q :: qs, hq, A, a, h => by
    rw [List.foldl_cons, List.foldl_cons]
    refine vecFold_eq i qs (fun p hp => hq p (by simp [hp])) _ _ ?_
    rw [← xor_bitWord, ← h, ← vecBit_eq (hq q (by simp)) i]
    rfl

/-- The kernel's constant minus one. -/
theorem ofBits_neg_one_f32 : (Scalar.ofBits .f32 0xBF800000#32 : Ideal .f32) = (-1 : EReal) := by
  show Ideal.ofBits .f32 0xBF800000#32 = _
  rw [show (-1 : EReal) = ((-(1 : ℝ) : ℝ) : EReal) by rw [EReal.coe_neg, EReal.coe_one]]
  simp [Ideal.ofBits, Ideal.ieee, -EReal.coe_mul, -EReal.coe_neg]; norm_num

/-- The kernel's constant one. -/
theorem ofBits_pos_one_f32 : (Scalar.ofBits .f32 0x3F800000#32 : Ideal .f32) = (1 : EReal) := by
  exact Ideal.ofBits_one_f32

/-- The sign pattern over the rows of a piece. -/
theorem pattern_eq {qs : List Nat} (hq : ∀ q ∈ qs, q < 3) (i : SR.Idx) :
    (pattern qs : FVec Ideal SR .f32) i = sgn (mark qs (i 0).val) := by
  have e := vecFold_eq i qs hq (broadcast SR 0#32) false rfl
  unfold pattern
  show Scalar.select (IntOp.cmpi .eq ((List.foldl _ _ qs : IVec SR 32) i) 1#32) _ _ = _
  rw [e]
  show Scalar.select (IntOp.cmpi .eq (bitWord (mark qs (i 0).val)) 1#32)
    (Scalar.ofBits .f32 0xBF800000#32 : Ideal .f32) (Scalar.ofBits .f32 0x3F800000#32 : Ideal .f32) = _
  rw [ofBits_neg_one_f32, ofBits_pos_one_f32]
  cases mark qs (i 0).val <;> rfl

/-- The row index of the pattern that a piece's element reads. -/
def prowIdx (y : SP.Idx) : SR.Idx := fun a =>
  match a with
  | ⟨0, _⟩ => ⟨prow y, prow_lt y⟩
  | ⟨1, _⟩ => ⟨0, Nat.one_pos⟩

/-- A pattern over the rows of a piece, read at an element of the piece. -/
theorem broadcastTo_rows (x : FVec Ideal SR .f32) (h : SR.Broadcasts SP) (y : SP.Idx) :
    broadcastTo SP x h y = x (prowIdx y) := by
  apply broadcastTo_apply
  intro a
  fin_cases a <;> rfl

/-- A piece is negated where the parity of the bits is odd. -/
theorem signed_eq {hi lo : List Nat} (hhi : ∀ q ∈ hi, q < 13) (hlo : ∀ q ∈ lo, q < 3) {b : BitVec 32} (hb : b.toNat < 8192)
    (v : FVec Ideal SP .f32) (y : SP.Idx) :
    signed hi lo b v y = ((bif xor (mark hi b.toNat) (mark lo (prow y)) then -(v y : EReal) else (v y : EReal) : EReal)) := by
  match hi, lo with
  | [], [] => rfl
  | q :: qs, [] =>
    show (v y : EReal) * (signOf b q qs : Ideal .f32) = _
    rw [signOf_eq hb hhi, sgn_mul, show mark [] (prow y) = false from rfl, Bool.xor_false]
  | [], l :: ls =>
    show (v y : EReal) * (broadcastTo SP (pattern (l :: ls) : FVec Ideal SR .f32) _ y) = _
    rw [broadcastTo_rows, pattern_eq hlo, sgn_mul, show mark [] b.toNat = false from rfl, Bool.false_xor]
    rfl
  | q :: qs, l :: ls =>
    show (v y : EReal) * (broadcastTo SP (mulf (pattern (l :: ls) : FVec Ideal SR .f32) (broadcast SR (signOf b q qs))) _ y) = _
    rw [broadcastTo_rows]
    show (v y : EReal) * ((pattern (l :: ls) : FVec Ideal SR .f32) (prowIdx y) * (signOf b q qs : Ideal .f32)) = _
    rw [pattern_eq hlo, signOf_eq hb hhi, sgn_mul_sgn, sgn_mul]
    rfl

/-- The reshape of a piece to its own shape changes nothing. -/
theorem recast_eq (b : Bool) (v : FVec Ideal SP .f32) : recast b v = v := by
  cases b
  · rfl
  · exact shapeCast_self _ _

end Cert.Sort

end
-- ==== Proof.Column.lean ====
/-
  A group pass on one lane of a block: compare-exchanges of the lane's column at consecutive bits of
  the row number, between two turns.
-/
module

public import proofs.«01_k».proof.Proof.Signs

@[expose] public section

noncomputable section

namespace Cert.Sort

open Idealize.ShloMosaic Idealize.ShloMosaic.SortNet

/-- One lane of a block. -/
def col (X : FVec Ideal SB .f32) (l : Fin 128) : Col := fun i => X (cell i.val l)

/-! ### The bits of a row number -/

/-- The row number with `m` above the bits of the piece number `i`, and `w` below them. -/
def place (e g m i w : Nat) : Nat := 2 ^ e * (2 ^ g * m + i) + w

/-- The bits of a row number, in three ranges. -/
theorem place_testBit {e g m i w : Nat} (hi : i < 2 ^ g) (hw : w < 2 ^ e) (s : Nat) :
    (place e g m i w).testBit s
      = if s < e then w.testBit s else if s - e < g then i.testBit (s - e) else m.testBit (s - e - g) := by
  unfold place
  rw [Nat.testBit_two_pow_mul_add _ hw, Nat.testBit_two_pow_mul_add _ hi]

/-- Changing a bit of a piece number gives a piece number. -/
theorem xor_two_pow_lt {g i l : Nat} (hi : i < 2 ^ g) (hl : l < g) : i ^^^ 2 ^ l < 2 ^ g :=
  Nat.xor_lt_two_pow hi (Nat.pow_lt_pow_right (by decide) hl)

/-- Changing a bit of the piece number is changing a bit of the row number. -/
theorem place_xor {e g m i w l : Nat} (hi : i < 2 ^ g) (hw : w < 2 ^ e) (hl : l < g) :
    place e g m i w ^^^ 2 ^ (e + l) = place e g m (i ^^^ 2 ^ l) w := by
  apply Nat.eq_of_testBit_eq
  intro s
  rw [Nat.testBit_xor, place_testBit hi hw, place_testBit (xor_two_pow_lt hi hl) hw, Nat.testBit_two_pow,
    Nat.testBit_xor, Nat.testBit_two_pow]
  by_cases h1 : s < e
  · have : e + l ≠ s := by omega
    simp [h1, this]
  · by_cases h2 : s - e < g
    · have : (e + l = s) ↔ (l = s - e) := by omega
      simp [h1, h2, this]
    · have : e + l ≠ s := by omega
      simp [h1, h2, this]

/-! ### The levels -/

/-- Changing a bit of a piece number is moving up or down. -/
theorem xor_bit : ∀ l < 5, ∀ i < 32, i ^^^ 2 ^ l = bif i.testBit l then i - 2 ^ l else i + 2 ^ l := by decide +kernel

/-- The levels of a trip, at one place of all pieces, are compare-exchanges of a column. -/
theorem levels_eq {e G : Nat} (hG : G ≤ 5) (ι : Nat → Fin (2 ^ 13)) (y : SP.Idx)
    (hbit : ∀ i < 2 ^ G, ∀ l < G, (ι i).val.testBit (e + l) = i.testBit l)
    (hpart : ∀ i < 2 ^ G, ∀ l < G, partner 13 (e + l) (ι i) = ι (i ^^^ 2 ^ l)) :
    ∀ (g : Nat), g ≤ G → ∀ (u : Nat → FVec Ideal SP .f32) (v : Col), (∀ i < 2 ^ G, u i y = v (ι i)) →
      ∀ i < 2 ^ G, levels g u i y = merges e g v (ι i)
  | 0, _, _, _, h => h
  | g + 1, hg, u, v, h => by
    show ∀ i < 2 ^ G, levels g (level g u) i y = merges e g (cx (e + g) v) (ι i)
    refine levels_eq hG ι y hbit hpart g (by omega) _ _ fun i hi => ?_
    have hx := xor_bit g (by omega) i (Nat.lt_of_lt_of_le hi (Nat.pow_le_pow_right (by decide) hG))
    have hp := h _ (xor_two_pow_lt hi (show g < G by omega))
    rw [hx] at hp
    unfold cx
    rw [hbit i hi g (by omega), hpart i hi g (by omega), hx]
    unfold level
    cases hb : i.testBit g
    · rw [hb] at hp
      show min (u i y : EReal) (u (i + 2 ^ g) y) = _
      rw [h i hi, ← hp]
      rfl
    · rw [hb] at hp
      show max (u (i - 2 ^ g) y : EReal) (u i y) = _
      rw [h i hi, ← hp]
      rfl

/-! ### The pass -/

/-- A group pass, on one lane. -/
theorem pass_col {κ : Cfg} (h : κ.Valid) {e : Nat} (he : 8 * κ.c = 2 ^ e) (hg : κ.g ≤ 5)
    (hld : ∀ q ∈ κ.ld, e + κ.g ≤ q ∧ q < 13) (hhi : ∀ q ∈ κ.hi, e + κ.g ≤ q ∧ q < 13) (hlo : ∀ q ∈ κ.lo, q < 3)
    (X : FVec Ideal SB .f32) (l : Fin 128) :
    col (κ.pass X) l = turn (κ.hi ++ κ.lo) (merges e κ.g (turn κ.ld (col X l))) := by
  funext n
  have hn : n.val < 8192 := n.isLt
  obtain ⟨t, ht⟩ : ∃ t, t = κ.tripOf n.val := ⟨_, rfl⟩
  obtain ⟨r, hr⟩ : ∃ r, r = κ.pieceOf n.val := ⟨_, rfl⟩
  have htl : t < κ.trips := by rw [ht]; exact h.tripOf_lt hn
  have hrl : r < 2 ^ κ.g := by rw [hr]; exact κ.pieceOf_lt _
  have hdec : κ.row t r + n.val % 8 = n.val := by rw [ht, hr]; exact h.row_decode _
  obtain ⟨y, hy⟩ : ∃ y, y = pcell n.val l := ⟨_, rfl⟩
  have hyr : prow y = n.val % 8 := by rw [hy]; rfl
  have hyl : plane y = l := by rw [hy]; rfl
  have hy8 : prow y < 8 := prow_lt y
  have hm : t % κ.c < κ.c := Nat.mod_lt _ h.pos
  have hw : t % κ.c * 8 + prow y < 2 ^ e := by omega
  have hw0 : t % κ.c * 8 + 0 < 2 ^ e := by omega
  -- every row of the trip, by its bits
  have hplace : ∀ i, κ.row t i + prow y = place e κ.g (t / κ.c) i (t % κ.c * 8 + prow y) := by
    intro i
    unfold Cfg.row place
    rw [← he]; ring
  have hbase : (κ.base t).toNat = place e κ.g (t / κ.c) 0 (t % κ.c * 8 + 0) := by
    rw [h.base_toNat htl]
    unfold place
    rw [← he]; ring
  have hlt : ∀ i < 2 ^ κ.g, κ.row t i + prow y < 8192 := fun i hi => by have := h.row_le htl hi; omega
  have hbl : (κ.base t).toNat < 8192 := by
    have := hlt 0 (Nat.two_pow_pos _)
    rw [h.base_toNat htl]; unfold Cfg.row at this; omega
  have hhigh : ∀ i < 2 ^ κ.g, ∀ qs : List Nat, (∀ q ∈ qs, e + κ.g ≤ q ∧ q < 13) →
      mark qs (κ.base t).toNat = mark qs (κ.row t i + prow y) := by
    intro i hi qs hqs
    refine mark_congr fun q hq => ?_
    have := hqs q hq
    rw [hbase, hplace, place_testBit (Nat.two_pow_pos _) hw0, place_testBit hi hw,
      if_neg (by omega), if_neg (by omega), if_neg (by omega), if_neg (by omega)]
  have hlow : ∀ i < 2 ^ κ.g, ∀ qs : List Nat, (∀ q ∈ qs, q < 3) → mark qs (prow y) = mark qs (κ.row t i + prow y) := by
    intro i hi qs hqs
    refine mark_congr fun q hq => ?_
    have hq3 := hqs q hq
    have e3 : κ.row t i + prow y = 2 ^ 3 * (t / κ.c * (2 ^ κ.g * κ.c) + t % κ.c + κ.c * i) + prow y := by
      unfold Cfg.row; ring
    rw [e3, Nat.testBit_two_pow_mul_add _ (by simpa using hy8), if_pos hq3]
  -- the place of each piece's element in the column
  obtain ⟨ι, hι⟩ : ∃ ι : Nat → Fin (2 ^ 13), ∀ i < 2 ^ κ.g, (ι i).val = κ.row t i + prow y :=
    ⟨fun i => ⟨(κ.row t i + prow y) % 8192, Nat.mod_lt _ (by decide)⟩, fun i hi => Nat.mod_eq_of_lt (hlt i hi)⟩
  have hιr : ι r = n := Fin.ext (by rw [hι r hrl, hyr, hdec])
  have hsum : e + κ.g ≤ 13 := by
    by_contra hc
    have h1 := hlt (2 ^ κ.g - 1) (by have := Nat.two_pow_pos κ.g; omega)
    rw [hplace] at h1
    have h2 : 2 ^ 13 ∣ 2 ^ (e + κ.g) := Nat.pow_dvd_pow 2 (by omega)
    have h3 : (2 : Nat) ^ 14 ≤ 2 ^ (e + κ.g) := Nat.pow_le_pow_right (by decide) (by omega)
    have h4 : 2 ^ (e + κ.g) = 2 ^ e * (2 ^ κ.g - 1) + 2 ^ e := by
      rw [Nat.pow_add, Nat.mul_sub_one]
      have : 2 ^ e ≤ 2 ^ e * 2 ^ κ.g := Nat.le_mul_of_pos_right _ (Nat.two_pow_pos _)
      omega
    have h5 : 2 ^ e * (2 ^ κ.g - 1) ≤ place e κ.g (t / κ.c) (2 ^ κ.g - 1) (t % κ.c * 8 + prow y) := by
      unfold place
      rw [Nat.mul_add]; omega
    have h6 : 2 ^ e ≤ 2 ^ 8 := by
      rw [← he]
      have : κ.c ≤ 32 := by
        have : ∀ p ∈ Cfg.sizes, p.2 ≤ 32 := by decide
        exact this _ h
      omega
    omega
  have hlev := levels_eq (e := e) hg ι y
    (fun i hi b hb => by
      rw [hι i hi, hplace, place_testBit hi hw, if_neg (by omega), if_pos (by omega), Nat.add_sub_cancel_left])
    (fun i hi b hb => Fin.ext (by
      rw [partner_val (by omega), hι i hi, hι _ (xor_two_pow_lt hi hb), hplace, hplace, place_xor hi hw hb]))
    κ.g (Nat.le_refl _)
    (fun i => signed κ.ld [] (κ.base t) (recast κ.cast (stack (2 ^ κ.g) (κ.piece t X) i))) (turn κ.ld (col X l))
    (fun i hi => by
      rw [signed_eq (fun q hq => (hld q hq).2) (by simp) hbl, recast_eq]
      unfold turn col
      rw [hhigh i hi _ hld, hι i hi, mark_nil, Bool.xor_false]
      unfold stack Cfg.piece
      rw [if_pos hi, hyl]
      cases mark κ.ld (κ.row t i + prow y) <;> rfl)
    r hrl
  rw [hιr] at hlev
  have hcell : cell n.val l = cell (κ.row t r + prow y) (plane y) := by rw [hyr, hdec, hyl]
  show κ.pass X (cell n.val l) = _
  rw [hcell, h.pass_at X htl hrl y]
  unfold Cfg.out
  rw [recast_eq, signed_eq (fun q hq => (hhi q hq).2) hlo hbl, hlev, hhigh r hrl _ hhi, hlow r hrl _ hlo, ← mark_append,
    hyr, hdec]
  unfold turn
  cases mark (κ.hi ++ κ.lo) n.val <;> rfl

end Cert.Sort

end
-- ==== Proof.Inside.lean ====
/-
  The passes inside the groups of eight rows and the pass that moves every row to its place, on one
  lane of a block; and the whole body on one lane: a sorting network.
-/
module

public import proofs.«01_k».proof.Proof.Column
public import proofs.«01_k».proof.Proof.Triple

@[expose] public section

noncomputable section

namespace Cert.Sort

open Idealize.ShloMosaic Idealize.ShloMosaic.SortNet

/-- The element of a block in its group of eight rows. -/
def vcell (r : Nat) (l : Fin 128) : SV.Idx := fun a =>
  match a with
  | ⟨0, _⟩ => ⟨r % 8192 / 8, by show r % 8192 / 8 < 1024; omega⟩
  | ⟨1, _⟩ => ⟨r % 8, Nat.mod_lt _ (by decide : 0 < 8)⟩
  | ⟨2, _⟩ => l

/-- The position of an element of a block. -/
theorem rowMajor_cell (r : Nat) (l : Fin 128) : (SB.rowMajor (cell r l)).val = r % 8192 * 128 + l.val :=
  Shape.rowMajor_val_two _

/-- Its position in groups of eight rows. -/
theorem rowMajor_vcell (r : Nat) (l : Fin 128) : (SV.rowMajor (vcell r l)).val = (r % 8192 / 8 * 8 + r % 8) * 128 + l.val :=
  Shape.rowMajor_val_three _

/-- The two positions are equal. -/
theorem rowMajor_eq (r : Nat) (l : Fin 128) : (SB.rowMajor (cell r l)).val = (SV.rowMajor (vcell r l)).val := by
  rw [rowMajor_cell, rowMajor_vcell]
  have : r % 8192 / 8 * 8 + r % 8 = r % 8192 := by omega
  rw [this]

/-- A block in groups of eight rows, at an element. -/
theorem cast_vcell (x : FVec Ideal SB .f32) (h : SB.ShapeCasts SV) (r : Nat) (l : Fin 128) :
    shapeCast SV x h (vcell r l) = x (cell r l) :=
  shapeCast_apply x h _ _ (rowMajor_eq r l)

/-- Groups of eight rows as a block, at an element. -/
theorem cast_cell (x : FVec Ideal SV .f32) (h : SV.ShapeCasts SB) (r : Nat) (l : Fin 128) :
    shapeCast SB x h (cell r l) = x (vcell r l) :=
  shapeCast_apply x h _ _ (rowMajor_eq r l).symm

/-! ### Compare-exchange inside a group -/

/-- The row of a group that a pattern over its rows has at an element. -/
def mcell (r : Nat) : SM.Idx := fun a =>
  match a with
  | ⟨0, _⟩ => ⟨0, Nat.one_pos⟩
  | ⟨1, _⟩ => ⟨r % 8, Nat.mod_lt _ (by decide : 0 < 8)⟩
  | ⟨2, _⟩ => ⟨0, Nat.one_pos⟩

/-- Where the kernel takes the larger of two rows: where the bit of the row is set. -/
theorem mask_eq {b : Nat} (hb : b < 3) (r : Nat) :
    subSet (subBit (BitVec.ofNat 32 (2 ^ b))) 0#32 (mcell r) = bif r.testBit b then 1#1 else 0#1 := by
  have e : subRows (mcell r) = BitVec.ofNat 32 (r % 8) := iota_single_apply .tc SM 32 1 (by decide) (mcell r)
  show IntOp.cmpi .ne (subRows (mcell r) &&& BitVec.ofNat 32 (2 ^ b)) 0#32 = _
  have ht : r.testBit b = (r % 8).testBit b := by
    rw [show (8 : Nat) = 2 ^ 3 from rfl, Nat.testBit_mod_two_pow]; simp [hb]
  rw [e, ht]
  have h8 : r % 8 < 8 := Nat.mod_lt _ (by decide)
  generalize r % 8 = s at h8 ⊢
  interval_cases b <;> interval_cases s <;> rfl

/-- Changing a low bit of a row is moving up or down. -/
theorem row_xor {b : Nat} (hb : b < 3) (r : Nat) : r ^^^ 2 ^ b = bif r.testBit b then r - 2 ^ b else r + 2 ^ b := by
  have e : r = place 0 3 (r / 8) (r % 8) 0 := by unfold place; omega
  have h8 : r % 8 < 2 ^ 3 := Nat.mod_lt _ (by decide)
  have hx := place_xor (e := 0) (m := r / 8) (w := 0) h8 (by decide) hb
  rw [← e, Nat.zero_add, xor_bit b (by omega) (r % 8) (by omega)] at hx
  have ht : r.testBit b = (r % 8).testBit b := by
    rw [show (8 : Nat) = 2 ^ 3 from rfl, Nat.testBit_mod_two_pow]; simp [hb]
  rw [hx, ht]
  cases h : (r % 8).testBit b
  · unfold place
    show 2 ^ 0 * (2 ^ 3 * (r / 8) + (r % 8 + 2 ^ b)) + 0 = r + 2 ^ b
    omega
  · have hle : 2 ^ b ≤ r % 8 := Nat.ge_two_pow_of_testBit h
    unfold place
    show 2 ^ 0 * (2 ^ 3 * (r / 8) + (r % 8 - 2 ^ b)) + 0 = r - 2 ^ b
    omega

/-- Above the first `d` rows, `down` is the row `d` before. -/
theorem down_cell {d : Nat} (hd : d ≤ 8) (x : FVec Ideal SB .f32) {r : Nat} (hr : r < 8192) (hdr : d ≤ r) (l : Fin 128) :
    down d hd x (cell r l) = x (cell (r - d) l) := by
  unfold down
  refine (concatenate_pair_apply_right (t := SB) (s₁ := ⟨2, ![d, 128]⟩) (s₂ := ⟨2, ![8192 - d, 128]⟩) 0 _ _ _ (cell r l) rfl rfl
    (fun a => match a with
      | ⟨0, _⟩ => ⟨r - d, by show r - d < 8192 - d; omega⟩
      | ⟨1, _⟩ => l)
    (by intro b hb; fin_cases b
        · exact absurd rfl hb
        · rfl)
    (by show r - d + d = r % 8192; omega)).trans ?_
  refine extractStridedSlice_apply _ x _ _ _ fun a => ?_
  fin_cases a
  · show (r - d) % 8192 = 0 + (r - d); omega
  · show l.val = 0 + l.val; omega

/-- Below the last `d` rows, `up` is the row `d` after. -/
theorem up_cell {d : Nat} (hd : d ≤ 8) (x : FVec Ideal SB .f32) {r : Nat} (hr : r + d < 8192) (l : Fin 128) :
    up d hd x (cell r l) = x (cell (r + d) l) := by
  unfold up
  refine (concatenate_pair_apply_left (t := SB) (s₁ := ⟨2, ![8192 - d, 128]⟩) (s₂ := ⟨2, ![d, 128]⟩) 0 _ _ _ (cell r l) rfl
    (fun a => match a with
      | ⟨0, _⟩ => ⟨r, by show r < 8192 - d; omega⟩
      | ⟨1, _⟩ => l)
    (by intro b; fin_cases b
        · show r = r % 8192; omega
        · rfl)).trans ?_
  refine extractStridedSlice_apply _ x _ _ _ fun a => ?_
  fin_cases a
  · show (r + d) % 8192 = d + r; omega
  · show l.val = 0 + l.val; omega

/-- A pass inside the groups, on one lane. -/
theorem sub_col {b : Nat} (hb : b < 3) (hd : 2 ^ b ≤ 8) (X : FVec Ideal SB .f32) (l : Fin 128) :
    col (sub (2 ^ b) hd X) l = cx b (col X l) := by
  funext n
  have hn : n.val < 8192 := n.isLt
  have hp : (partner 13 b n).val = n.val ^^^ 2 ^ b := partner_val (by omega) n
  have hpl : (partner 13 b n).val < 8192 := (partner 13 b n).isLt
  rw [row_xor hb] at hp
  unfold col cx sub blend
  rw [cast_cell]
  show Scalar.select (broadcastTo SV (shapeCast SM _ _) _ (vcell n.val l))
    (max (shapeCast SV X _ (vcell n.val l) : EReal) (shapeCast SV (down (2 ^ b) hd X) _ (vcell n.val l)))
    (min (shapeCast SV X _ (vcell n.val l) : EReal) (shapeCast SV (up (2 ^ b) hd X) _ (vcell n.val l))) = _
  rw [cast_vcell, cast_vcell, cast_vcell, broadcastTo_apply _ _ (vcell n.val l) (mcell n.val)
    (by intro a; fin_cases a <;> rfl), shapeCast_self, mask_eq hb]
  cases h : n.val.testBit b
  · rw [h] at hp
    rw [up_cell hd X (by rw [hp] at hpl; exact hpl)]
    show min (X (cell n.val l) : EReal) (X (cell (n.val + 2 ^ b) l))
      = min (X (cell n.val l) : EReal) (X (cell (partner 13 b n).val l))
    rw [hp]
    rfl
  · rw [h] at hp
    rw [down_cell hd X hn (Nat.ge_two_pow_of_testBit h)]
    show max (X (cell n.val l) : EReal) (X (cell (n.val - 2 ^ b) l))
      = max (X (cell (partner 13 b n).val l) : EReal) (X (cell n.val l))
    rw [hp, max_comm]
    rfl

/-! ### Every row to its place -/

/-- The element of a list of every eighth row. -/
def wcell (r : Nat) (l : Fin 128) : SW.Idx := fun a =>
  match a with
  | ⟨0, _⟩ => ⟨r % 1024, Nat.mod_lt _ (by decide : 0 < 1024)⟩
  | ⟨1, _⟩ => l

/-- Every eighth row of a block, at an element. -/
theorem every_cell {v : Nat} (hv : v < 8) (x : FVec Ideal SB .f32) (h : SB.ShapeCasts SV) (m : Nat) (l : Fin 128) :
    every v hv (shapeCast SV x h) (wcell m l) = x (cell (m % 1024 * 8 + v) l) := by
  unfold every
  refine (shapeCast_apply (s := ⟨3, ![1024, 1, 128]⟩) (t := SW) _ _ (wcell m l)
    (fun a => match a with
      | ⟨0, _⟩ => ⟨m % 1024, Nat.mod_lt _ (by decide : 0 < 1024)⟩
      | ⟨1, _⟩ => ⟨0, Nat.one_pos⟩
      | ⟨2, _⟩ => l)
    (by
      rw [Shape.rowMajor_val_three, Shape.rowMajor_val_two]
      show (m % 1024 * 1 + 0) * 128 + l.val = m % 1024 * 128 + l.val
      omega)).trans ?_
  refine (extractStridedSlice_apply (s := SV) _ _ _ _ (vcell (m % 1024 * 8 + v) l) (fun a => by
    fin_cases a
    · show (m % 1024 * 8 + v) % 8192 / 8 = 0 + m % 1024; omega
    · show (m % 1024 * 8 + v) % 8 = v + 0; omega
    · show l.val = 0 + l.val; omega)).trans ?_
  exact cast_vcell x h _ l

/-- The last pass, on one lane. -/
theorem spread_col (X : FVec Ideal SB .f32) (l : Fin 128) : col (spread X) l = unrot (col X l) := by
  funext n
  have hn : n.val < 8192 := n.isLt
  have key := concatenate_ofFn_apply (t := SB) (s₁ := SW) 0
    (fun v : Fin 8 => every v.val v.isLt (shapeCast SV X (by decide : SB.ShapeCasts SV))) eight rfl 1024 rfl (cell n.val l)
    ⟨n.val / 1024, by omega⟩ (by show n.val % 8192 / 1024 = n.val / 1024; omega) (wcell n.val l)
    (by show n.val % 1024 = n.val % 8192 % 1024; omega)
    (by intro b hb; fin_cases b
        · exact absurd rfl hb
        · rfl)
  rw [every_cell] at key
  exact key

/-! ### The whole body -/

section Steps

variable {X : FVec Ideal SB .f32} {l : Fin 128} {v : Col} {e g c : Nat} {hi lo : List Nat} {cast : Bool}

/-- A pass without signs, after others. -/
theorem step_plain (h : Cfg.Valid ⟨g, c, [], [], [], cast⟩) (he : 8 * c = 2 ^ e) (hg : g ≤ 5) (hX : col X l = v) :
    col (Cfg.pass ⟨g, c, [], [], [], cast⟩ X) l = merges e g v := by
  rw [pass_col h he hg (by simp) (by simp) (by simp), hX]; rfl

/-- A pass that signs what it stores, after others. -/
theorem step_turn (h : Cfg.Valid ⟨g, c, [], hi, lo, cast⟩) (he : 8 * c = 2 ^ e) (hg : g ≤ 5)
    (hhi : ∀ q ∈ hi, e + g ≤ q ∧ q < 13) (hlo : ∀ q ∈ lo, q < 3) (hX : col X l = v) :
    col (Cfg.pass ⟨g, c, [], hi, lo, cast⟩ X) l = turn (hi ++ lo) (merges e g v) := by
  rw [pass_col h he hg (by simp) hhi hlo, hX]; rfl

/-- A pass inside the groups, after others. -/
theorem step_sub {d b : Nat} (hd : d ≤ 8) (hb : b < 3) (hdb : d = 2 ^ b) (hX : col X l = v) :
    col (sub d hd X) l = cx b v := by
  subst hdb
  rw [sub_col hb, hX]

end Steps

/-- The passes on one lane are the steps on its column. -/
theorem steps_col (X : FVec Ideal SB .f32) (l : Fin 128) :
    col (last (mid2 (mid1 (front X)))) l = steps (col X l) := by
  unfold steps last mid2 mid1 front
  simp only [List.foldl_cons, List.foldl_nil]
  repeat first
    | refine step_plain (by decide) rfl (by decide) ?_
    | refine step_turn (by decide) rfl (by decide) (by decide) (by decide) ?_
    | refine step_sub _ (by decide) rfl ?_
  exact pass_col (e := 3) (by decide) rfl (by decide) (by decide) (by decide) (by decide) X l

/-- The body sorts every lane. -/
theorem result_col (X : FVec Ideal SX .f32) (l : Fin 128) :
    col (flatten (result X)) l = Network.apply (sortNet 13 false) (unrot (col (flatten X) l)) := by
  rw [← unrot_steps]
  unfold result
  rw [flatten_lift, spread_col, steps_col]

end Cert.Sort

end
-- ==== Proof.Sorted.lean ====
/-
  The reference's sort on one column, and the body's against it: two ascending rearrangements of one
  column are one column.
-/
module

public import proofs.«01_k».proof.Proof.Inside
public import proofs.«01_k».proof.Proof.Gen.ReferenceIdeal
public import Idealize.ShloMosaic.Lib.SortFacts
public import Idealize.ShloMosaic.Lib.SortNet.HostSort

@[expose] public section

noncomputable section

namespace Cert.Sort

open Idealize.ShloMosaic Idealize.ShloMosaic.SortNet

/-- The shape of the whole array. -/
abbrev SA : Shape := ⟨3, ![4, 8192, 1024]⟩

/-- The element of the array in batch `b`, row `r` and feature `f`. -/
def acell (b : Fin 4) (r : Fin (2 ^ 13)) (f : Fin 1024) : SA.Idx := fun a =>
  match a with
  | ⟨0, _⟩ => b
  | ⟨1, _⟩ => r
  | ⟨2, _⟩ => f

/-- The element of a block in row `r` and lane `l`. -/
def xcell (r : Fin (2 ^ 13)) (l : Fin 128) : SX.Idx := fun a =>
  match a with
  | ⟨0, _⟩ => ⟨0, Nat.one_pos⟩
  | ⟨1, _⟩ => r
  | ⟨2, _⟩ => l

/-- A block without its leading axis, at an element. -/
theorem flatten_cell (X : FVec Ideal SX .f32) (r : Fin (2 ^ 13)) (l : Fin 128) : flatten X (cell r.val l) = X (xcell r l) := by
  have hr : r.val < 8192 := r.isLt
  refine shapeCast_apply X _ _ _ ?_
  rw [rowMajor_cell, Shape.rowMajor_val_three]
  show (0 * 8192 + r.val) * 128 + l.val = _
  rw [Nat.mod_eq_of_lt hr]; omega

/-- Moving an element along its column. -/
theorem along_acell (b : Fin 4) (r k : Fin (2 ^ 13)) (f : Fin 1024) : (acell b r f).along 1 k = acell b k f := by
  funext a
  unfold Shape.Idx.along
  fin_cases a <;> rfl

/-- The reference's comparator on the extended reals is the strict order. -/
theorem comparator_eq (x y : EReal) :
    (Cert.ReferenceIdeal.comparator_f32_d1 (F := Ideal) x y == 1#1) = decide (x < y) := by
  have h0' : ∀ u z : EReal, Scalar.select (Ideal.cmp .oeq z u) u z = z := by
    intro u z
    unfold Ideal.cmp Scalar.select
    by_cases h : z = u <;> simp [h]
  have h0 := h0' (Ideal.ofBits .f32 0x00000000#32)
  have h1 : ∀ z w u : EReal, Scalar.select (Ideal.cmp .une z z) w u = u := by
    intro z w u
    unfold Ideal.cmp Scalar.select
    simp
  show (Ideal.cmp .olt
      (Scalar.select (Ideal.cmp .une x x) (Ideal.ofBits .f32 0x7FC00000#32)
        (Scalar.select (Ideal.cmp .oeq x (Ideal.ofBits .f32 0x00000000#32)) (Ideal.ofBits .f32 0x00000000#32) x))
      (Scalar.select (Ideal.cmp .une y y) (Ideal.ofBits .f32 0x7FC00000#32)
        (Scalar.select (Ideal.cmp .oeq y (Ideal.ofBits .f32 0x00000000#32)) (Ideal.ofBits .f32 0x00000000#32) y)) == 1#1) = _
  rw [h1, h1, h0, h0]
  unfold Ideal.cmp
  cases decide (x < y) <;> rfl

/-- What the reference computes from the argument. -/
def expected (A : FVec Ideal SA .f32) : FVec Ideal SA .f32 :=
  Host.sort SA 1 (Cert.ReferenceIdeal.comparator_f32_d1 (F := Ideal)) A

/-- The order in which the reference takes the entries of a column. -/
def order (v : Col) : Fin (2 ^ 13) → Fin (2 ^ 13) := sortedFrom fun k k' => decide (v k < v k')

/-- The reference at an element: the entry of its column that the order puts there. -/
theorem expected_cell (A : FVec Ideal SA .f32) (b : Fin 4) (r : Fin (2 ^ 13)) (f : Fin 1024) :
    expected A (acell b r f) = A (acell b (order (fun k => A (acell b k f)) r) f) := by
  unfold expected Host.sort
  rw [dif_pos (show 1 < SA.rank by decide)]
  have hf : (fun k k' : Fin (2 ^ 13) => Cert.ReferenceIdeal.comparator_f32_d1 (F := Ideal)
      (A ((acell b r f).along 1 k)) (A ((acell b r f).along 1 k')) == 1#1)
      = fun k k' => decide ((A (acell b k f) : EReal) < A (acell b k' f)) := by
    funext k k'
    exact (congrArg₂ (fun p q => Cert.ReferenceIdeal.comparator_f32_d1 (F := Ideal) (A p) (A q) == 1#1)
      (along_acell b r k f) (along_acell b r k' f)).trans (comparator_eq _ _)
  exact (congrArg A (along_acell b r _ f)).trans (congrArg (fun g => A (acell b (sortedFrom g r) f)) hf)

/-- The order makes a column ascend. -/
theorem order_monotone (v : Col) : Monotone fun r => v (order v r) := by
  intro i j hij
  rcases Nat.lt_or_eq_of_le hij with h | h
  · have hB := sortedFrom_noInversion (fun k k' => decide (v k < v k')) (fun k k' => decide (v k < v k'))
      (by intro a b h; simp at h ⊢; exact le_of_lt h) (fun _ _ h => h)
      (by intro a b c h1 h2; simp at h1 h2 ⊢; exact le_trans h2 h1) i j h
    simp at hB
    exact hB
  · rw [Fin.ext h]

/-- The order as a rearrangement of the places. -/
def orderPerm (v : Col) : Equiv.Perm (Fin (2 ^ 13)) :=
  Equiv.ofBijective (order v) ⟨sortedFrom_injective _, sortedFrom_surjective _⟩

/-- The rearrangement is the order. -/
theorem coe_orderPerm (v : Col) : ⇑(orderPerm v) = order v := by
  unfold orderPerm
  exact Equiv.coe_ofBijective _ _

/-- Rotating the bits of places keeps them apart. -/
theorem rot_injective : Function.Injective rot := by
  intro i j h
  have e := congrArg Fin.val h
  have hi : i.val < 8192 := i.isLt
  have hj : j.val < 8192 := j.isLt
  apply Fin.ext
  unfold rot at e
  simp only at e
  omega

/-- The rotation of the bits of a place as a rearrangement of the places. -/
def rotPerm : Equiv.Perm (Fin (2 ^ 13)) :=
  Equiv.ofBijective rot (Finite.injective_iff_bijective.1 rot_injective)

/-- Two ascending rearrangements of a column are equal. -/
theorem eq_of_monotone (v : Col) (σ τ : Equiv.Perm (Fin (2 ^ 13))) (hσ : Monotone (v ∘ σ)) (hτ : Monotone (v ∘ τ)) :
    v ∘ σ = v ∘ τ := by
  have h : ∀ ρ : Equiv.Perm (Fin (2 ^ 13)), Monotone (v ∘ ρ) → (List.ofFn (v ∘ ρ)).Pairwise fun a b => a ≤ b := by
    intro ρ hρ
    rw [List.pairwise_ofFn]
    exact fun i j hij => hρ (le_of_lt hij)
  exact List.ofFn_injective (List.Perm.eq_of_pairwise (le := fun a b : EReal => a ≤ b)
    (fun a b _ _ q1 q2 => le_antisymm q1 q2) (h σ hσ) (h τ hτ)
    ((Equiv.Perm.ofFn_comp_perm σ v).trans (Equiv.Perm.ofFn_comp_perm τ v).symm))

/-- The network on a column taken in rotated order is the reference's order of that column. -/
theorem network_eq (v : Col) (r : Fin (2 ^ 13)) : Network.apply (sortNet 13 false) (unrot v) r = v (order v r) := by
  obtain ⟨σ, hσ⟩ := Network.exists_perm (sortNet 13 false) (unrot v)
  have e1 : Network.apply (sortNet 13 false) (unrot v) = v ∘ (σ.trans rotPerm) := hσ
  have h1 : Monotone (v ∘ (σ.trans rotPerm)) := by rw [← e1]; exact sortNet_apply_monotone 13 (unrot v)
  have h2 : Monotone (v ∘ orderPerm v) := by rw [coe_orderPerm]; exact order_monotone v
  have e2 := eq_of_monotone v _ _ h1 h2
  rw [coe_orderPerm] at e2
  rw [e1]
  exact congrFun e2 r

/-- A block whose lane is a column of the array comes out of the body with the reference's column in that lane. -/
theorem result_cell (A : FVec Ideal SA .f32) (X : FVec Ideal SX .f32) (b : Fin 4) (f : Fin 1024) (l : Fin 128)
    (h : ∀ r, X (xcell r l) = A (acell b r f)) (r : Fin (2 ^ 13)) : result X (xcell r l) = expected A (acell b r f) := by
  have hc : col (flatten X) l = fun k => A (acell b k f) := by
    funext k
    exact (flatten_cell X k l).trans (h k)
  have hr := congrFun (result_col X l) r
  rw [hc, network_eq] at hr
  rw [expected_cell, ← hr]
  exact (flatten_cell (result X) r l).symm

end Cert.Sort

end
-- ==== Proof.FinalIdeal.lean ====
/-
  The output array at the end: block by block, what the reference computes from the argument.
-/
module

public import proofs.«01_k».proof.Proof.RunIdeal
public import proofs.«01_k».proof.Proof.Sorted
public import Idealize.ShloMosaic.Lib.Pipeline.ValueKit

@[expose] public section

noncomputable section

namespace Cert.KernelIdeal.Sorted

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

/-- Which block of the argument a point reads. -/
theorem index_0 : ∀ t : Fin cfg0.N, win0_0.index t = ![t.val / 8, 0, t.val % 8] := by decide +kernel
/-- Which block of the output a point writes. -/
theorem index_1 : ∀ t : Fin cfg0.N, win0_1.index t = ![t.val / 8, 0, t.val % 8] := by decide +kernel

/-- The batch that a point's block lies in. -/
def batch (t : Fin cfg0.N) : Fin 4 := ⟨t.val / 8, by have h : t.val < 32 := t.isLt; omega⟩
/-- The feature that a point's block has in a lane. -/
def feature (t : Fin cfg0.N) (l : Fin 128) : Fin 1024 := ⟨t.val % 8 * 128 + l.val, by have := l.isLt; omega⟩

/-- Where an element of the block that a point reads lies in the array. -/
theorem emb_0 (t : Fin cfg0.N) (r : Fin (2 ^ 13)) (l : Fin 128) :
    (win0_0.blk t).view.emb (Sort.xcell r l) = Sort.acell (batch t) r (feature t l) := by
  blk_ext [index_0 t] <;> rfl
/-- Where an element of the block that a point writes lies in the array. -/
theorem emb_1 (t : Fin cfg0.N) (r : Fin (2 ^ 13)) (l : Fin 128) :
    (win0_1.blk t).view.emb (Sort.xcell r l) = Sort.acell (batch t) r (feature t l) := by
  blk_ext [index_1 t] <;> rfl

/-- An element of a block is the one in its row and lane. -/
theorem xcell_eta (y : Sort.SX.Idx) : Sort.xcell (y 1) (y 2) = y := by
  funext a
  fin_cases a
  · exact Fin.ext (by have : (y 0).val < 1 := (y 0).isLt; show 0 = (y 0).val; omega)
  · rfl
  · rfl

/-- What a point leaves in its block is what the reference has there. -/
theorem block_eq (c : Dev nD) (t : Fin cfg0.N) (y : Sort.SX.Idx) :
    Sort.result (iblk m c 0 t) y = Sort.expected (m ((c.tc : Thread nD τ).loc main_arg0)) ((win0_1.blk t).view.emb y) := by
  obtain ⟨r, l, rfl⟩ : ∃ r l, Sort.xcell r l = y := ⟨_, _, xcell_eta y⟩
  rw [emb_1]
  refine Sort.result_cell _ _ _ _ _ (fun k => ?_) r
  rw [← emb_0]
  rfl

/-- The blocks of all points make up the output array. -/
theorem final (c : Dev nD) :
    (dats (F := Ideal) m 0 c).arrAt 1 cfg0.N = Sort.expected (m ((c.tc : Thread nD τ).loc main_arg0)) := by
  refine (dats (F := Ideal) m 0 c).arrAt_eq_of_covers 1 _ (by decide +kernel) fun t hf y => ?_
  blk_simp
  rw [after0_1]
  exact block_eq m c t y

/-- The run with the output it ends with: what the reference computes from the argument. -/
theorem value : θ_run defs (onTc (τ := τ) (main (F := Ideal))) ⟨m, fun _ => 0, ρ⟩ (fun r => ∀ c : Dev nD,
    r.2.mem ((c.tc : Thread nD τ).loc main_v0) = Sort.expected (m ((c.tc : Thread nD τ).loc main_arg0))
      ∧ r.2.mem ((c.tc : Thread nD τ).loc main_arg0) = m ((c.tc : Thread nD τ).loc main_arg0)) :=
  (θ_run defs _ _).mono (fun r h c =>
    ⟨((h c).1 1).trans (final m c),
      ((h c).1 0).trans (((dats (F := Ideal) m 0 c).arrAt_in 0 rfl _).trans (A_eq m c 0))⟩) (run m ρ)

end Cert.KernelIdeal.Sorted

end
-- ==== Proof.lean ====
module

public import proofs.«01_k».proof.Defs
public import proofs.«01_k».proof.Proof.FinalIdeal
public import proofs.«01_k».proof.Proof.RunPrinted
public import proofs.«01_k».proof.Proof.Gen.ReferenceIdeal
public import proofs.«01_k».proof.Proof.Gen.ReferenceIdeal.Run

@[expose] public section

noncomputable section

namespace Cert.Proof

open Idealize.ShloMosaic Idealize.SL.Sem

theorem frame_printed : @Cert.quiescent_Kernel Cert.Kernel.Gen.facts := fun m g _ => Cert.Kernel.Sorted.frame m g

theorem frame_ideal : @Cert.quiescent_KernelIdeal Cert.KernelIdeal.Gen.facts := fun m g _ => Cert.KernelIdeal.Sorted.frame m g

theorem frame_reference : @Cert.quiescent_ReferenceIdeal Cert.ReferenceIdeal.Gen.facts := fun m g _ =>
  (θ_run Cert.ReferenceIdeal.defs _ _).mono (fun r h => ⟨fun c => (h c).2, sem_eq_zero_of_no_sems (by decide) r.2⟩)
    (Cert.ReferenceIdeal.Value.run m g)

theorem algebraic : @Cert.algebraic_KernelIdeal_ReferenceIdeal Cert.KernelIdeal.Gen.facts Cert.ReferenceIdeal.Gen.facts :=
  fun m g m' g' _ hargs =>
    ⟨fun c => Cert.Sort.expected (m ((c.tc : Thread Cert.KernelIdeal.nD Cert.KernelIdeal.τ).loc Cert.KernelIdeal.main_arg0)),
      Cert.KernelIdeal.Sorted.value m g,
      (θ_run Cert.ReferenceIdeal.defs _ _).mono
        (fun _ h c => ⟨(h c).1.trans (congrArg Cert.Sort.expected (hargs c)), (h c).2⟩)
        (Cert.ReferenceIdeal.Value.run m' g')⟩

theorem claim : Cert.Claim := ⟨Cert.Kernel.Gen.facts, Cert.KernelIdeal.Gen.facts, Cert.ReferenceIdeal.Gen.facts,
  frame_printed, frame_ideal, frame_reference, trivial, algebraic⟩

end Cert.Proof

end
